-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x512 : Shape := ⟨2, ![512, 512]⟩
abbrev S2x128x128x64 : Shape := ⟨4, ![2, 128, 128, 64]⟩
abbrev S_ : Shape := ⟨0, ![]⟩
abbrev S2x128x8x64 : Shape := ⟨4, ![2, 128, 8, 64]⟩
abbrev S2x8x128x64 : Shape := ⟨4, ![2, 8, 128, 64]⟩
abbrev S16x128x64 : Shape := ⟨3, ![16, 128, 64]⟩
abbrev S256x512 : Shape := ⟨2, ![256, 512]⟩
abbrev S16x512 : Shape := ⟨2, ![16, 512]⟩
abbrev S16x16x512 : Shape := ⟨3, ![16, 16, 512]⟩
abbrev S16 : Shape := ⟨1, ![16]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x16x512 : Shape := ⟨3, ![1, 16, 512]⟩

abbrev nBuf : Space → Nat
  | .hbm => 40
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S2x128x128x64, .f32⟩
  | .hbm, ⟨4, _⟩ => ⟨S2x128x128x64, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x8x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x8x64, .f32⟩
  | .hbm, ⟨33, _⟩ => ⟨S2x8x128x64, .f32⟩
  | .hbm, ⟨34, _⟩ => ⟨S16x128x64, .f32⟩
  | .hbm, ⟨35, _⟩ => ⟨S2x8x128x64, .f32⟩
  | .hbm, ⟨36, _⟩ => ⟨S16x128x64, .f32⟩
  | .hbm, ⟨37, _⟩ => ⟨S256x512, .f32⟩
  | .hbm, ⟨38, _⟩ => ⟨S256x512, .f32⟩
  | .hbm, ⟨39, _⟩ => ⟨S2x128x512, .f32⟩
  | .local _ .vmem, ⟨0, _⟩ => ⟨S256x512, .f32⟩
  | .local _ .vmem, ⟨1, _⟩ => ⟨S512x512, .f32⟩
  | .local _ .vmem, ⟨2, _⟩ => ⟨S512x512, .f32⟩
  | .local _ .vmem, ⟨3, _⟩ => ⟨S16x128x64, .f32⟩
  | .local _ .vmem, ⟨4, _⟩ => ⟨S16x128x64, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x16x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_332 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v547 : BitVec 32 := Scalar.addi v2 c1_i32_332
  let c16_i32_333 : BitVec 32 := 16#32
  let c0_i32_334 : BitVec 32 := 0#32
  let v548 : BitVec 1 := Scalar.cmpi .eq c16_i32_333 c0_i32_334
  let c1_i32_335 : BitVec 32 := 1#32
  let v549 : BitVec 32 := Scalar.select v548 c1_i32_335 c16_i32_333
  let v550 : BitVec 32 := Scalar.remsi v547 v549
  let c0_i32_337 : BitVec 32 := 0#32
  let v552 : BitVec 1 := Scalar.cmpi .slt v550 c0_i32_337
  let c0_i32_338 : BitVec 32 := 0#32
  let v553 : BitVec 1 := Scalar.cmpi .slt v549 c0_i32_338
  let v554 : BitVec 1 := Scalar.xori v552 v553
  let c0_i32_336 : BitVec 32 := 0#32
  let v551 : BitVec 1 := Scalar.cmpi .ne v550 c0_i32_336
  let v555 : BitVec 1 := Scalar.andi v554 v551
  let v556 : BitVec 32 := Scalar.addi v550 v549
  let v557 : BitVec 32 := Scalar.select v555 v556 v550
  let c16_i32_339 : BitVec 32 := 16#32
  let v558 : BitVec 32 := Scalar.muli v557 c16_i32_339
  let c0_i32_347 : BitVec 32 := 0#32
  ![v558.toNat, 0]
def k0_dev16 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_332 : BitVec 32 := 1#32
  let v547 : BitVec 32 := Scalar.addi v2 c1_i32_332
  let c16_i32_333 : BitVec 32 := 16#32
  let c0_i32_334 : BitVec 32 := 0#32
  let v548 : BitVec 1 := Scalar.cmpi .eq c16_i32_333 c0_i32_334
  let c1_i32_335 : BitVec 32 := 1#32
  let v549 : BitVec 32 := Scalar.select v548 c1_i32_335 c16_i32_333
  let v550 : BitVec 32 := Scalar.remsi v547 v549
  let c0_i32_337 : BitVec 32 := 0#32
  let v552 : BitVec 1 := Scalar.cmpi .slt v550 c0_i32_337
  let c0_i32_338 : BitVec 32 := 0#32
  let v553 : BitVec 1 := Scalar.cmpi .slt v549 c0_i32_338
  let v554 : BitVec 1 := Scalar.xori v552 v553
  let c0_i32_336 : BitVec 32 := 0#32
  let v551 : BitVec 1 := Scalar.cmpi .ne v550 c0_i32_336
  let v555 : BitVec 1 := Scalar.andi v554 v551
  let v556 : BitVec 32 := Scalar.addi v550 v549
  let v557 : BitVec 32 := Scalar.select v555 v556 v550
  let c1_i32_343 : BitVec 32 := 1#32
  let v559 : BitVec 32 := Scalar.muli v557 c1_i32_343
  let v560 : BitVec 32 := Scalar.addi c0_i32_344 v559
  v560.toNat
def k0_dev17 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_348 : BitVec 32 := 2#32
  let v568 : BitVec 32 := Scalar.addi v2 c2_i32_348
  let c16_i32_349 : BitVec 32 := 16#32
  let c0_i32_350 : BitVec 32 := 0#32
  let v569 : BitVec 1 := Scalar.cmpi .eq c16_i32_349 c0_i32_350
  let c1_i32_351 : BitVec 32 := 1#32
  let v570 : BitVec 32 := Scalar.select v569 c1_i32_351 c16_i32_349
  let v571 : BitVec 32 := Scalar.remsi v568 v570
  let c0_i32_353 : BitVec 32 := 0#32
  let v573 : BitVec 1 := Scalar.cmpi .slt v571 c0_i32_353
  let c0_i32_354 : BitVec 32 := 0#32
  let v574 : BitVec 1 := Scalar.cmpi .slt v570 c0_i32_354
  let v575 : BitVec 1 := Scalar.xori v573 v574
  let c0_i32_352 : BitVec 32 := 0#32
  let v572 : BitVec 1 := Scalar.cmpi .ne v571 c0_i32_352
  let v576 : BitVec 1 := Scalar.andi v575 v572
  let v577 : BitVec 32 := Scalar.addi v571 v570
  let v578 : BitVec 32 := Scalar.select v576 v577 v571
  let c1_i32_359 : BitVec 32 := 1#32
  let v580 : BitVec 32 := Scalar.muli v578 c1_i32_359
  let v581 : BitVec 32 := Scalar.addi c0_i32_360 v580
  v581.toNat
def k0_dev18 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_364 : BitVec 32 := 3#32
  let v589 : BitVec 32 := Scalar.addi v2 c3_i32_364
  let c16_i32_365 : BitVec 32 := 16#32
  let c0_i32_366 : BitVec 32 := 0#32
  let v590 : BitVec 1 := Scalar.cmpi .eq c16_i32_365 c0_i32_366
  let c1_i32_367 : BitVec 32 := 1#32
  let v591 : BitVec 32 := Scalar.select v590 c1_i32_367 c16_i32_365
  let v592 : BitVec 32 := Scalar.remsi v589 v591
  let c0_i32_369 : BitVec 32 := 0#32
  let v594 : BitVec 1 := Scalar.cmpi .slt v592 c0_i32_369
  let c0_i32_370 : BitVec 32 := 0#32
  let v595 : BitVec 1 := Scalar.cmpi .slt v591 c0_i32_370
  let v596 : BitVec 1 := Scalar.xori v594 v595
  let c0_i32_368 : BitVec 32 := 0#32
  let v593 : BitVec 1 := Scalar.cmpi .ne v592 c0_i32_368
  let v597 : BitVec 1 := Scalar.andi v596 v593
  let v598 : BitVec 32 := Scalar.addi v592 v591
  let v599 : BitVec 32 := Scalar.select v597 v598 v592
  let c1_i32_375 : BitVec 32 := 1#32
  let v601 : BitVec 32 := Scalar.muli v599 c1_i32_375
  let v602 : BitVec 32 := Scalar.addi c0_i32_376 v601
  v602.toNat
def k0_dev19 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_380 : BitVec 32 := 4#32
  let v610 : BitVec 32 := Scalar.addi v2 c4_i32_380
  let c16_i32_381 : BitVec 32 := 16#32
  let c0_i32_382 : BitVec 32 := 0#32
  let v611 : BitVec 1 := Scalar.cmpi .eq c16_i32_381 c0_i32_382
  let c1_i32_383 : BitVec 32 := 1#32
  let v612 : BitVec 32 := Scalar.select v611 c1_i32_383 c16_i32_381
  let v613 : BitVec 32 := Scalar.remsi v610 v612
  let c0_i32_385 : BitVec 32 := 0#32
  let v615 : BitVec 1 := Scalar.cmpi .slt v613 c0_i32_385
  let c0_i32_386 : BitVec 32 := 0#32
  let v616 : BitVec 1 := Scalar.cmpi .slt v612 c0_i32_386
  let v617 : BitVec 1 := Scalar.xori v615 v616
  let c0_i32_384 : BitVec 32 := 0#32
  let v614 : BitVec 1 := Scalar.cmpi .ne v613 c0_i32_384
  let v618 : BitVec 1 := Scalar.andi v617 v614
  let v619 : BitVec 32 := Scalar.addi v613 v612
  let v620 : BitVec 32 := Scalar.select v618 v619 v613
  let c1_i32_391 : BitVec 32 := 1#32
  let v622 : BitVec 32 := Scalar.muli v620 c1_i32_391
  let v623 : BitVec 32 := Scalar.addi c0_i32_392 v622
  v623.toNat
def k0_dev20 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_396 : BitVec 32 := 5#32
  let v631 : BitVec 32 := Scalar.addi v2 c5_i32_396
  let c16_i32_397 : BitVec 32 := 16#32
  let c0_i32_398 : BitVec 32 := 0#32
  let v632 : BitVec 1 := Scalar.cmpi .eq c16_i32_397 c0_i32_398
  let c1_i32_399 : BitVec 32 := 1#32
  let v633 : BitVec 32 := Scalar.select v632 c1_i32_399 c16_i32_397
  let v634 : BitVec 32 := Scalar.remsi v631 v633
  let c0_i32_401 : BitVec 32 := 0#32
  let v636 : BitVec 1 := Scalar.cmpi .slt v634 c0_i32_401
  let c0_i32_402 : BitVec 32 := 0#32
  let v637 : BitVec 1 := Scalar.cmpi .slt v633 c0_i32_402
  let v638 : BitVec 1 := Scalar.xori v636 v637
  let c0_i32_400 : BitVec 32 := 0#32
  let v635 : BitVec 1 := Scalar.cmpi .ne v634 c0_i32_400
  let v639 : BitVec 1 := Scalar.andi v638 v635
  let v640 : BitVec 32 := Scalar.addi v634 v633
  let v641 : BitVec 32 := Scalar.select v639 v640 v634
  let c1_i32_407 : BitVec 32 := 1#32
  let v643 : BitVec 32 := Scalar.muli v641 c1_i32_407
  let v644 : BitVec 32 := Scalar.addi c0_i32_408 v643
  v644.toNat
def k0_dev21 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_412 : BitVec 32 := 6#32
  let v652 : BitVec 32 := Scalar.addi v2 c6_i32_412
  let c16_i32_413 : BitVec 32 := 16#32
  let c0_i32_414 : BitVec 32 := 0#32
  let v653 : BitVec 1 := Scalar.cmpi .eq c16_i32_413 c0_i32_414
  let c1_i32_415 : BitVec 32 := 1#32
  let v654 : BitVec 32 := Scalar.select v653 c1_i32_415 c16_i32_413
  let v655 : BitVec 32 := Scalar.remsi v652 v654
  let c0_i32_417 : BitVec 32 := 0#32
  let v657 : BitVec 1 := Scalar.cmpi .slt v655 c0_i32_417
  let c0_i32_418 : BitVec 32 := 0#32
  let v658 : BitVec 1 := Scalar.cmpi .slt v654 c0_i32_418
  let v659 : BitVec 1 := Scalar.xori v657 v658
  let c0_i32_416 : BitVec 32 := 0#32
  let v656 : BitVec 1 := Scalar.cmpi .ne v655 c0_i32_416
  let v660 : BitVec 1 := Scalar.andi v659 v656
  let v661 : BitVec 32 := Scalar.addi v655 v654
  let v662 : BitVec 32 := Scalar.select v660 v661 v655
  let c1_i32_423 : BitVec 32 := 1#32
  let v664 : BitVec 32 := Scalar.muli v662 c1_i32_423
  let v665 : BitVec 32 := Scalar.addi c0_i32_424 v664
  v665.toNat
def k0_dev22 (d0 : Dev nD) : Nat :=
  let c0_i32_440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_428 : BitVec 32 := 7#32
  let v673 : BitVec 32 := Scalar.addi v2 c7_i32_428
  let c16_i32_429 : BitVec 32 := 16#32
  let c0_i32_430 : BitVec 32 := 0#32
  let v674 : BitVec 1 := Scalar.cmpi .eq c16_i32_429 c0_i32_430
  let c1_i32_431 : BitVec 32 := 1#32
  let v675 : BitVec 32 := Scalar.select v674 c1_i32_431 c16_i32_429
  let v676 : BitVec 32 := Scalar.remsi v673 v675
  let c0_i32_433 : BitVec 32 := 0#32
  let v678 : BitVec 1 := Scalar.cmpi .slt v676 c0_i32_433
  let c0_i32_434 : BitVec 32 := 0#32
  let v679 : BitVec 1 := Scalar.cmpi .slt v675 c0_i32_434
  let v680 : BitVec 1 := Scalar.xori v678 v679
  let c0_i32_432 : BitVec 32 := 0#32
  let v677 : BitVec 1 := Scalar.cmpi .ne v676 c0_i32_432
  let v681 : BitVec 1 := Scalar.andi v680 v677
  let v682 : BitVec 32 := Scalar.addi v676 v675
  let v683 : BitVec 32 := Scalar.select v681 v682 v676
  let c1_i32_439 : BitVec 32 := 1#32
  let v685 : BitVec 32 := Scalar.muli v683 c1_i32_439
  let v686 : BitVec 32 := Scalar.addi c0_i32_440 v685
  v686.toNat
def k0_dev23 (d0 : Dev nD) : Nat :=
  let c0_i32_456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_444 : BitVec 32 := 8#32
  let v694 : BitVec 32 := Scalar.addi v2 c8_i32_444
  let c16_i32_445 : BitVec 32 := 16#32
  let c0_i32_446 : BitVec 32 := 0#32
  let v695 : BitVec 1 := Scalar.cmpi .eq c16_i32_445 c0_i32_446
  let c1_i32_447 : BitVec 32 := 1#32
  let v696 : BitVec 32 := Scalar.select v695 c1_i32_447 c16_i32_445
  let v697 : BitVec 32 := Scalar.remsi v694 v696
  let c0_i32_449 : BitVec 32 := 0#32
  let v699 : BitVec 1 := Scalar.cmpi .slt v697 c0_i32_449
  let c0_i32_450 : BitVec 32 := 0#32
  let v700 : BitVec 1 := Scalar.cmpi .slt v696 c0_i32_450
  let v701 : BitVec 1 := Scalar.xori v699 v700
  let c0_i32_448 : BitVec 32 := 0#32
  let v698 : BitVec 1 := Scalar.cmpi .ne v697 c0_i32_448
  let v702 : BitVec 1 := Scalar.andi v701 v698
  let v703 : BitVec 32 := Scalar.addi v697 v696
  let v704 : BitVec 32 := Scalar.select v702 v703 v697
  let c1_i32_455 : BitVec 32 := 1#32
  let v706 : BitVec 32 := Scalar.muli v704 c1_i32_455
  let v707 : BitVec 32 := Scalar.addi c0_i32_456 v706
  v707.toNat
def k0_dev24 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_460 : BitVec 32 := 9#32
  let v715 : BitVec 32 := Scalar.addi v2 c9_i32_460
  let c16_i32_461 : BitVec 32 := 16#32
  let c0_i32_462 : BitVec 32 := 0#32
  let v716 : BitVec 1 := Scalar.cmpi .eq c16_i32_461 c0_i32_462
  let c1_i32_463 : BitVec 32 := 1#32
  let v717 : BitVec 32 := Scalar.select v716 c1_i32_463 c16_i32_461
  let v718 : BitVec 32 := Scalar.remsi v715 v717
  let c0_i32_465 : BitVec 32 := 0#32
  let v720 : BitVec 1 := Scalar.cmpi .slt v718 c0_i32_465
  let c0_i32_466 : BitVec 32 := 0#32
  let v721 : BitVec 1 := Scalar.cmpi .slt v717 c0_i32_466
  let v722 : BitVec 1 := Scalar.xori v720 v721
  let c0_i32_464 : BitVec 32 := 0#32
  let v719 : BitVec 1 := Scalar.cmpi .ne v718 c0_i32_464
  let v723 : BitVec 1 := Scalar.andi v722 v719
  let v724 : BitVec 32 := Scalar.addi v718 v717
  let v725 : BitVec 32 := Scalar.select v723 v724 v718
  let c1_i32_471 : BitVec 32 := 1#32
  let v727 : BitVec 32 := Scalar.muli v725 c1_i32_471
  let v728 : BitVec 32 := Scalar.addi c0_i32_472 v727
  v728.toNat
def k0_dev25 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_476 : BitVec 32 := 10#32
  let v736 : BitVec 32 := Scalar.addi v2 c10_i32_476
  let c16_i32_477 : BitVec 32 := 16#32
  let c0_i32_478 : BitVec 32 := 0#32
  let v737 : BitVec 1 := Scalar.cmpi .eq c16_i32_477 c0_i32_478
  let c1_i32_479 : BitVec 32 := 1#32
  let v738 : BitVec 32 := Scalar.select v737 c1_i32_479 c16_i32_477
  let v739 : BitVec 32 := Scalar.remsi v736 v738
  let c0_i32_481 : BitVec 32 := 0#32
  let v741 : BitVec 1 := Scalar.cmpi .slt v739 c0_i32_481
  let c0_i32_482 : BitVec 32 := 0#32
  let v742 : BitVec 1 := Scalar.cmpi .slt v738 c0_i32_482
  let v743 : BitVec 1 := Scalar.xori v741 v742
  let c0_i32_480 : BitVec 32 := 0#32
  let v740 : BitVec 1 := Scalar.cmpi .ne v739 c0_i32_480
  let v744 : BitVec 1 := Scalar.andi v743 v740
  let v745 : BitVec 32 := Scalar.addi v739 v738
  let v746 : BitVec 32 := Scalar.select v744 v745 v739
  let c1_i32_487 : BitVec 32 := 1#32
  let v748 : BitVec 32 := Scalar.muli v746 c1_i32_487
  let v749 : BitVec 32 := Scalar.addi c0_i32_488 v748
  v749.toNat
def k0_dev26 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_492 : BitVec 32 := 11#32
  let v757 : BitVec 32 := Scalar.addi v2 c11_i32_492
  let c16_i32_493 : BitVec 32 := 16#32
  let c0_i32_494 : BitVec 32 := 0#32
  let v758 : BitVec 1 := Scalar.cmpi .eq c16_i32_493 c0_i32_494
  let c1_i32_495 : BitVec 32 := 1#32
  let v759 : BitVec 32 := Scalar.select v758 c1_i32_495 c16_i32_493
  let v760 : BitVec 32 := Scalar.remsi v757 v759
  let c0_i32_497 : BitVec 32 := 0#32
  let v762 : BitVec 1 := Scalar.cmpi .slt v760 c0_i32_497
  let c0_i32_498 : BitVec 32 := 0#32
  let v763 : BitVec 1 := Scalar.cmpi .slt v759 c0_i32_498
  let v764 : BitVec 1 := Scalar.xori v762 v763
  let c0_i32_496 : BitVec 32 := 0#32
  let v761 : BitVec 1 := Scalar.cmpi .ne v760 c0_i32_496
  let v765 : BitVec 1 := Scalar.andi v764 v761
  let v766 : BitVec 32 := Scalar.addi v760 v759
  let v767 : BitVec 32 := Scalar.select v765 v766 v760
  let c1_i32_503 : BitVec 32 := 1#32
  let v769 : BitVec 32 := Scalar.muli v767 c1_i32_503
  let v770 : BitVec 32 := Scalar.addi c0_i32_504 v769
  v770.toNat
def k0_dev27 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_508 : BitVec 32 := 12#32
  let v778 : BitVec 32 := Scalar.addi v2 c12_i32_508
  let c16_i32_509 : BitVec 32 := 16#32
  let c0_i32_510 : BitVec 32 := 0#32
  let v779 : BitVec 1 := Scalar.cmpi .eq c16_i32_509 c0_i32_510
  let c1_i32_511 : BitVec 32 := 1#32
  let v780 : BitVec 32 := Scalar.select v779 c1_i32_511 c16_i32_509
  let v781 : BitVec 32 := Scalar.remsi v778 v780
  let c0_i32_513 : BitVec 32 := 0#32
  let v783 : BitVec 1 := Scalar.cmpi .slt v781 c0_i32_513
  let c0_i32_514 : BitVec 32 := 0#32
  let v784 : BitVec 1 := Scalar.cmpi .slt v780 c0_i32_514
  let v785 : BitVec 1 := Scalar.xori v783 v784
  let c0_i32_512 : BitVec 32 := 0#32
  let v782 : BitVec 1 := Scalar.cmpi .ne v781 c0_i32_512
  let v786 : BitVec 1 := Scalar.andi v785 v782
  let v787 : BitVec 32 := Scalar.addi v781 v780
  let v788 : BitVec 32 := Scalar.select v786 v787 v781
  let c1_i32_519 : BitVec 32 := 1#32
  let v790 : BitVec 32 := Scalar.muli v788 c1_i32_519
  let v791 : BitVec 32 := Scalar.addi c0_i32_520 v790
  v791.toNat
def k0_dev28 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_524 : BitVec 32 := 13#32
  let v799 : BitVec 32 := Scalar.addi v2 c13_i32_524
  let c16_i32_525 : BitVec 32 := 16#32
  let c0_i32_526 : BitVec 32 := 0#32
  let v800 : BitVec 1 := Scalar.cmpi .eq c16_i32_525 c0_i32_526
  let c1_i32_527 : BitVec 32 := 1#32
  let v801 : BitVec 32 := Scalar.select v800 c1_i32_527 c16_i32_525
  let v802 : BitVec 32 := Scalar.remsi v799 v801
  let c0_i32_529 : BitVec 32 := 0#32
  let v804 : BitVec 1 := Scalar.cmpi .slt v802 c0_i32_529
  let c0_i32_530 : BitVec 32 := 0#32
  let v805 : BitVec 1 := Scalar.cmpi .slt v801 c0_i32_530
  let v806 : BitVec 1 := Scalar.xori v804 v805
  let c0_i32_528 : BitVec 32 := 0#32
  let v803 : BitVec 1 := Scalar.cmpi .ne v802 c0_i32_528
  let v807 : BitVec 1 := Scalar.andi v806 v803
  let v808 : BitVec 32 := Scalar.addi v802 v801
  let v809 : BitVec 32 := Scalar.select v807 v808 v802
  let c1_i32_535 : BitVec 32 := 1#32
  let v811 : BitVec 32 := Scalar.muli v809 c1_i32_535
  let v812 : BitVec 32 := Scalar.addi c0_i32_536 v811
  v812.toNat
def k0_dev29 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_540 : BitVec 32 := 14#32
  let v820 : BitVec 32 := Scalar.addi v2 c14_i32_540
  let c16_i32_541 : BitVec 32 := 16#32
  let c0_i32_542 : BitVec 32 := 0#32
  let v821 : BitVec 1 := Scalar.cmpi .eq c16_i32_541 c0_i32_542
  let c1_i32_543 : BitVec 32 := 1#32
  let v822 : BitVec 32 := Scalar.select v821 c1_i32_543 c16_i32_541
  let v823 : BitVec 32 := Scalar.remsi v820 v822
  let c0_i32_545 : BitVec 32 := 0#32
  let v825 : BitVec 1 := Scalar.cmpi .slt v823 c0_i32_545
  let c0_i32_546 : BitVec 32 := 0#32
  let v826 : BitVec 1 := Scalar.cmpi .slt v822 c0_i32_546
  let v827 : BitVec 1 := Scalar.xori v825 v826
  let c0_i32_544 : BitVec 32 := 0#32
  let v824 : BitVec 1 := Scalar.cmpi .ne v823 c0_i32_544
  let v828 : BitVec 1 := Scalar.andi v827 v824
  let v829 : BitVec 32 := Scalar.addi v823 v822
  let v830 : BitVec 32 := Scalar.select v828 v829 v823
  let c1_i32_551 : BitVec 32 := 1#32
  let v832 : BitVec 32 := Scalar.muli v830 c1_i32_551
  let v833 : BitVec 32 := Scalar.addi c0_i32_552 v832
  v833.toNat
def k0_dev30 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_556 : BitVec 32 := 15#32
  let v841 : BitVec 32 := Scalar.addi v2 c15_i32_556
  let c16_i32_557 : BitVec 32 := 16#32
  let c0_i32_558 : BitVec 32 := 0#32
  let v842 : BitVec 1 := Scalar.cmpi .eq c16_i32_557 c0_i32_558
  let c1_i32_559 : BitVec 32 := 1#32
  let v843 : BitVec 32 := Scalar.select v842 c1_i32_559 c16_i32_557
  let v844 : BitVec 32 := Scalar.remsi v841 v843
  let c0_i32_561 : BitVec 32 := 0#32
  let v846 : BitVec 1 := Scalar.cmpi .slt v844 c0_i32_561
  let c0_i32_562 : BitVec 32 := 0#32
  let v847 : BitVec 1 := Scalar.cmpi .slt v843 c0_i32_562
  let v848 : BitVec 1 := Scalar.xori v846 v847
  let c0_i32_560 : BitVec 32 := 0#32
  let v845 : BitVec 1 := Scalar.cmpi .ne v844 c0_i32_560
  let v849 : BitVec 1 := Scalar.andi v848 v845
  let v850 : BitVec 32 := Scalar.addi v844 v843
  let v851 : BitVec 32 := Scalar.select v849 v850 v844
  let c1_i32_567 : BitVec 32 := 1#32
  let v853 : BitVec 32 := Scalar.muli v851 c1_i32_567
  let v854 : BitVec 32 := Scalar.addi c0_i32_568 v853
  v854.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_572 : BitVec 32 := 16#32
  let v862 : BitVec 32 := Scalar.muli v2 c16_i32_572
  let v863 : Index := Scalar.indexCast v862
  let c0_573 : Index := 0#32
  ![v863.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_748 : BitVec 32 := 16#32
  let v1029 : BitVec 32 := Scalar.muli v2 c16_i32_748
  let c0_i32_753 : BitVec 32 := 0#32
  ![v1029.toNat, 0]
def k0_dev31 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_741 : BitVec 32 := 1#32
  let v1018 : BitVec 32 := Scalar.addi v2 c1_i32_741
  let c16_i32_742 : BitVec 32 := 16#32
  let c0_i32_743 : BitVec 32 := 0#32
  let v1019 : BitVec 1 := Scalar.cmpi .eq c16_i32_742 c0_i32_743
  let c1_i32_744 : BitVec 32 := 1#32
  let v1020 : BitVec 32 := Scalar.select v1019 c1_i32_744 c16_i32_742
  let v1021 : BitVec 32 := Scalar.remsi v1018 v1020
  let c0_i32_746 : BitVec 32 := 0#32
  let v1023 : BitVec 1 := Scalar.cmpi .slt v1021 c0_i32_746
  let c0_i32_747 : BitVec 32 := 0#32
  let v1024 : BitVec 1 := Scalar.cmpi .slt v1020 c0_i32_747
  let v1025 : BitVec 1 := Scalar.xori v1023 v1024
  let c0_i32_745 : BitVec 32 := 0#32
  let v1022 : BitVec 1 := Scalar.cmpi .ne v1021 c0_i32_745
  let v1026 : BitVec 1 := Scalar.andi v1025 v1022
  let v1027 : BitVec 32 := Scalar.addi v1021 v1020
  let v1028 : BitVec 32 := Scalar.select v1026 v1027 v1021
  let c1_i32_751 : BitVec 32 := 1#32
  let v1030 : BitVec 32 := Scalar.muli v1028 c1_i32_751
  let v1031 : BitVec 32 := Scalar.addi c0_i32_752 v1030
  v1031.toNat
def k0_dev32 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_754 : BitVec 32 := 2#32
  let v1037 : BitVec 32 := Scalar.addi v2 c2_i32_754
  let c16_i32_755 : BitVec 32 := 16#32
  let c0_i32_756 : BitVec 32 := 0#32
  let v1038 : BitVec 1 := Scalar.cmpi .eq c16_i32_755 c0_i32_756
  let c1_i32_757 : BitVec 32 := 1#32
  let v1039 : BitVec 32 := Scalar.select v1038 c1_i32_757 c16_i32_755
  let v1040 : BitVec 32 := Scalar.remsi v1037 v1039
  let c0_i32_759 : BitVec 32 := 0#32
  let v1042 : BitVec 1 := Scalar.cmpi .slt v1040 c0_i32_759
  let c0_i32_760 : BitVec 32 := 0#32
  let v1043 : BitVec 1 := Scalar.cmpi .slt v1039 c0_i32_760
  let v1044 : BitVec 1 := Scalar.xori v1042 v1043
  let c0_i32_758 : BitVec 32 := 0#32
  let v1041 : BitVec 1 := Scalar.cmpi .ne v1040 c0_i32_758
  let v1045 : BitVec 1 := Scalar.andi v1044 v1041
  let v1046 : BitVec 32 := Scalar.addi v1040 v1039
  let v1047 : BitVec 32 := Scalar.select v1045 v1046 v1040
  let c1_i32_764 : BitVec 32 := 1#32
  let v1049 : BitVec 32 := Scalar.muli v1047 c1_i32_764
  let v1050 : BitVec 32 := Scalar.addi c0_i32_765 v1049
  v1050.toNat
def k0_dev33 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_767 : BitVec 32 := 3#32
  let v1056 : BitVec 32 := Scalar.addi v2 c3_i32_767
  let c16_i32_768 : BitVec 32 := 16#32
  let c0_i32_769 : BitVec 32 := 0#32
  let v1057 : BitVec 1 := Scalar.cmpi .eq c16_i32_768 c0_i32_769
  let c1_i32_770 : BitVec 32 := 1#32
  let v1058 : BitVec 32 := Scalar.select v1057 c1_i32_770 c16_i32_768
  let v1059 : BitVec 32 := Scalar.remsi v1056 v1058
  let c0_i32_772 : BitVec 32 := 0#32
  let v1061 : BitVec 1 := Scalar.cmpi .slt v1059 c0_i32_772
  let c0_i32_773 : BitVec 32 := 0#32
  let v1062 : BitVec 1 := Scalar.cmpi .slt v1058 c0_i32_773
  let v1063 : BitVec 1 := Scalar.xori v1061 v1062
  let c0_i32_771 : BitVec 32 := 0#32
  let v1060 : BitVec 1 := Scalar.cmpi .ne v1059 c0_i32_771
  let v1064 : BitVec 1 := Scalar.andi v1063 v1060
  let v1065 : BitVec 32 := Scalar.addi v1059 v1058
  let v1066 : BitVec 32 := Scalar.select v1064 v1065 v1059
  let c1_i32_777 : BitVec 32 := 1#32
  let v1068 : BitVec 32 := Scalar.muli v1066 c1_i32_777
  let v1069 : BitVec 32 := Scalar.addi c0_i32_778 v1068
  v1069.toNat
def k0_dev34 (d0 : Dev nD) : Nat :=
  let c0_i32_791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_780 : BitVec 32 := 4#32
  let v1075 : BitVec 32 := Scalar.addi v2 c4_i32_780
  let c16_i32_781 : BitVec 32 := 16#32
  let c0_i32_782 : BitVec 32 := 0#32
  let v1076 : BitVec 1 := Scalar.cmpi .eq c16_i32_781 c0_i32_782
  let c1_i32_783 : BitVec 32 := 1#32
  let v1077 : BitVec 32 := Scalar.select v1076 c1_i32_783 c16_i32_781
  let v1078 : BitVec 32 := Scalar.remsi v1075 v1077
  let c0_i32_785 : BitVec 32 := 0#32
  let v1080 : BitVec 1 := Scalar.cmpi .slt v1078 c0_i32_785
  let c0_i32_786 : BitVec 32 := 0#32
  let v1081 : BitVec 1 := Scalar.cmpi .slt v1077 c0_i32_786
  let v1082 : BitVec 1 := Scalar.xori v1080 v1081
  let c0_i32_784 : BitVec 32 := 0#32
  let v1079 : BitVec 1 := Scalar.cmpi .ne v1078 c0_i32_784
  let v1083 : BitVec 1 := Scalar.andi v1082 v1079
  let v1084 : BitVec 32 := Scalar.addi v1078 v1077
  let v1085 : BitVec 32 := Scalar.select v1083 v1084 v1078
  let c1_i32_790 : BitVec 32 := 1#32
  let v1087 : BitVec 32 := Scalar.muli v1085 c1_i32_790
  let v1088 : BitVec 32 := Scalar.addi c0_i32_791 v1087
  v1088.toNat
def k0_dev35 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_793 : BitVec 32 := 5#32
  let v1094 : BitVec 32 := Scalar.addi v2 c5_i32_793
  let c16_i32_794 : BitVec 32 := 16#32
  let c0_i32_795 : BitVec 32 := 0#32
  let v1095 : BitVec 1 := Scalar.cmpi .eq c16_i32_794 c0_i32_795
  let c1_i32_796 : BitVec 32 := 1#32
  let v1096 : BitVec 32 := Scalar.select v1095 c1_i32_796 c16_i32_794
  let v1097 : BitVec 32 := Scalar.remsi v1094 v1096
  let c0_i32_798 : BitVec 32 := 0#32
  let v1099 : BitVec 1 := Scalar.cmpi .slt v1097 c0_i32_798
  let c0_i32_799 : BitVec 32 := 0#32
  let v1100 : BitVec 1 := Scalar.cmpi .slt v1096 c0_i32_799
  let v1101 : BitVec 1 := Scalar.xori v1099 v1100
  let c0_i32_797 : BitVec 32 := 0#32
  let v1098 : BitVec 1 := Scalar.cmpi .ne v1097 c0_i32_797
  let v1102 : BitVec 1 := Scalar.andi v1101 v1098
  let v1103 : BitVec 32 := Scalar.addi v1097 v1096
  let v1104 : BitVec 32 := Scalar.select v1102 v1103 v1097
  let c1_i32_803 : BitVec 32 := 1#32
  let v1106 : BitVec 32 := Scalar.muli v1104 c1_i32_803
  let v1107 : BitVec 32 := Scalar.addi c0_i32_804 v1106
  v1107.toNat
def k0_dev36 (d0 : Dev nD) : Nat :=
  let c0_i32_817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_806 : BitVec 32 := 6#32
  let v1113 : BitVec 32 := Scalar.addi v2 c6_i32_806
  let c16_i32_807 : BitVec 32 := 16#32
  let c0_i32_808 : BitVec 32 := 0#32
  let v1114 : BitVec 1 := Scalar.cmpi .eq c16_i32_807 c0_i32_808
  let c1_i32_809 : BitVec 32 := 1#32
  let v1115 : BitVec 32 := Scalar.select v1114 c1_i32_809 c16_i32_807
  let v1116 : BitVec 32 := Scalar.remsi v1113 v1115
  let c0_i32_811 : BitVec 32 := 0#32
  let v1118 : BitVec 1 := Scalar.cmpi .slt v1116 c0_i32_811
  let c0_i32_812 : BitVec 32 := 0#32
  let v1119 : BitVec 1 := Scalar.cmpi .slt v1115 c0_i32_812
  let v1120 : BitVec 1 := Scalar.xori v1118 v1119
  let c0_i32_810 : BitVec 32 := 0#32
  let v1117 : BitVec 1 := Scalar.cmpi .ne v1116 c0_i32_810
  let v1121 : BitVec 1 := Scalar.andi v1120 v1117
  let v1122 : BitVec 32 := Scalar.addi v1116 v1115
  let v1123 : BitVec 32 := Scalar.select v1121 v1122 v1116
  let c1_i32_816 : BitVec 32 := 1#32
  let v1125 : BitVec 32 := Scalar.muli v1123 c1_i32_816
  let v1126 : BitVec 32 := Scalar.addi c0_i32_817 v1125
  v1126.toNat
def k0_dev37 (d0 : Dev nD) : Nat :=
  let c0_i32_830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_819 : BitVec 32 := 7#32
  let v1132 : BitVec 32 := Scalar.addi v2 c7_i32_819
  let c16_i32_820 : BitVec 32 := 16#32
  let c0_i32_821 : BitVec 32 := 0#32
  let v1133 : BitVec 1 := Scalar.cmpi .eq c16_i32_820 c0_i32_821
  let c1_i32_822 : BitVec 32 := 1#32
  let v1134 : BitVec 32 := Scalar.select v1133 c1_i32_822 c16_i32_820
  let v1135 : BitVec 32 := Scalar.remsi v1132 v1134
  let c0_i32_824 : BitVec 32 := 0#32
  let v1137 : BitVec 1 := Scalar.cmpi .slt v1135 c0_i32_824
  let c0_i32_825 : BitVec 32 := 0#32
  let v1138 : BitVec 1 := Scalar.cmpi .slt v1134 c0_i32_825
  let v1139 : BitVec 1 := Scalar.xori v1137 v1138
  let c0_i32_823 : BitVec 32 := 0#32
  let v1136 : BitVec 1 := Scalar.cmpi .ne v1135 c0_i32_823
  let v1140 : BitVec 1 := Scalar.andi v1139 v1136
  let v1141 : BitVec 32 := Scalar.addi v1135 v1134
  let v1142 : BitVec 32 := Scalar.select v1140 v1141 v1135
  let c1_i32_829 : BitVec 32 := 1#32
  let v1144 : BitVec 32 := Scalar.muli v1142 c1_i32_829
  let v1145 : BitVec 32 := Scalar.addi c0_i32_830 v1144
  v1145.toNat
def k0_dev38 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_832 : BitVec 32 := 8#32
  let v1151 : BitVec 32 := Scalar.addi v2 c8_i32_832
  let c16_i32_833 : BitVec 32 := 16#32
  let c0_i32_834 : BitVec 32 := 0#32
  let v1152 : BitVec 1 := Scalar.cmpi .eq c16_i32_833 c0_i32_834
  let c1_i32_835 : BitVec 32 := 1#32
  let v1153 : BitVec 32 := Scalar.select v1152 c1_i32_835 c16_i32_833
  let v1154 : BitVec 32 := Scalar.remsi v1151 v1153
  let c0_i32_837 : BitVec 32 := 0#32
  let v1156 : BitVec 1 := Scalar.cmpi .slt v1154 c0_i32_837
  let c0_i32_838 : BitVec 32 := 0#32
  let v1157 : BitVec 1 := Scalar.cmpi .slt v1153 c0_i32_838
  let v1158 : BitVec 1 := Scalar.xori v1156 v1157
  let c0_i32_836 : BitVec 32 := 0#32
  let v1155 : BitVec 1 := Scalar.cmpi .ne v1154 c0_i32_836
  let v1159 : BitVec 1 := Scalar.andi v1158 v1155
  let v1160 : BitVec 32 := Scalar.addi v1154 v1153
  let v1161 : BitVec 32 := Scalar.select v1159 v1160 v1154
  let c1_i32_842 : BitVec 32 := 1#32
  let v1163 : BitVec 32 := Scalar.muli v1161 c1_i32_842
  let v1164 : BitVec 32 := Scalar.addi c0_i32_843 v1163
  v1164.toNat
def k0_dev39 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_845 : BitVec 32 := 9#32
  let v1170 : BitVec 32 := Scalar.addi v2 c9_i32_845
  let c16_i32_846 : BitVec 32 := 16#32
  let c0_i32_847 : BitVec 32 := 0#32
  let v1171 : BitVec 1 := Scalar.cmpi .eq c16_i32_846 c0_i32_847
  let c1_i32_848 : BitVec 32 := 1#32
  let v1172 : BitVec 32 := Scalar.select v1171 c1_i32_848 c16_i32_846
  let v1173 : BitVec 32 := Scalar.remsi v1170 v1172
  let c0_i32_850 : BitVec 32 := 0#32
  let v1175 : BitVec 1 := Scalar.cmpi .slt v1173 c0_i32_850
  let c0_i32_851 : BitVec 32 := 0#32
  let v1176 : BitVec 1 := Scalar.cmpi .slt v1172 c0_i32_851
  let v1177 : BitVec 1 := Scalar.xori v1175 v1176
  let c0_i32_849 : BitVec 32 := 0#32
  let v1174 : BitVec 1 := Scalar.cmpi .ne v1173 c0_i32_849
  let v1178 : BitVec 1 := Scalar.andi v1177 v1174
  let v1179 : BitVec 32 := Scalar.addi v1173 v1172
  let v1180 : BitVec 32 := Scalar.select v1178 v1179 v1173
  let c1_i32_855 : BitVec 32 := 1#32
  let v1182 : BitVec 32 := Scalar.muli v1180 c1_i32_855
  let v1183 : BitVec 32 := Scalar.addi c0_i32_856 v1182
  v1183.toNat
def k0_dev40 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_858 : BitVec 32 := 10#32
  let v1189 : BitVec 32 := Scalar.addi v2 c10_i32_858
  let c16_i32_859 : BitVec 32 := 16#32
  let c0_i32_860 : BitVec 32 := 0#32
  let v1190 : BitVec 1 := Scalar.cmpi .eq c16_i32_859 c0_i32_860
  let c1_i32_861 : BitVec 32 := 1#32
  let v1191 : BitVec 32 := Scalar.select v1190 c1_i32_861 c16_i32_859
  let v1192 : BitVec 32 := Scalar.remsi v1189 v1191
  let c0_i32_863 : BitVec 32 := 0#32
  let v1194 : BitVec 1 := Scalar.cmpi .slt v1192 c0_i32_863
  let c0_i32_864 : BitVec 32 := 0#32
  let v1195 : BitVec 1 := Scalar.cmpi .slt v1191 c0_i32_864
  let v1196 : BitVec 1 := Scalar.xori v1194 v1195
  let c0_i32_862 : BitVec 32 := 0#32
  let v1193 : BitVec 1 := Scalar.cmpi .ne v1192 c0_i32_862
  let v1197 : BitVec 1 := Scalar.andi v1196 v1193
  let v1198 : BitVec 32 := Scalar.addi v1192 v1191
  let v1199 : BitVec 32 := Scalar.select v1197 v1198 v1192
  let c1_i32_868 : BitVec 32 := 1#32
  let v1201 : BitVec 32 := Scalar.muli v1199 c1_i32_868
  let v1202 : BitVec 32 := Scalar.addi c0_i32_869 v1201
  v1202.toNat
def k0_dev41 (d0 : Dev nD) : Nat :=
  let c0_i32_882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_871 : BitVec 32 := 11#32
  let v1208 : BitVec 32 := Scalar.addi v2 c11_i32_871
  let c16_i32_872 : BitVec 32 := 16#32
  let c0_i32_873 : BitVec 32 := 0#32
  let v1209 : BitVec 1 := Scalar.cmpi .eq c16_i32_872 c0_i32_873
  let c1_i32_874 : BitVec 32 := 1#32
  let v1210 : BitVec 32 := Scalar.select v1209 c1_i32_874 c16_i32_872
  let v1211 : BitVec 32 := Scalar.remsi v1208 v1210
  let c0_i32_876 : BitVec 32 := 0#32
  let v1213 : BitVec 1 := Scalar.cmpi .slt v1211 c0_i32_876
  let c0_i32_877 : BitVec 32 := 0#32
  let v1214 : BitVec 1 := Scalar.cmpi .slt v1210 c0_i32_877
  let v1215 : BitVec 1 := Scalar.xori v1213 v1214
  let c0_i32_875 : BitVec 32 := 0#32
  let v1212 : BitVec 1 := Scalar.cmpi .ne v1211 c0_i32_875
  let v1216 : BitVec 1 := Scalar.andi v1215 v1212
  let v1217 : BitVec 32 := Scalar.addi v1211 v1210
  let v1218 : BitVec 32 := Scalar.select v1216 v1217 v1211
  let c1_i32_881 : BitVec 32 := 1#32
  let v1220 : BitVec 32 := Scalar.muli v1218 c1_i32_881
  let v1221 : BitVec 32 := Scalar.addi c0_i32_882 v1220
  v1221.toNat
def k0_dev42 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_884 : BitVec 32 := 12#32
  let v1227 : BitVec 32 := Scalar.addi v2 c12_i32_884
  let c16_i32_885 : BitVec 32 := 16#32
  let c0_i32_886 : BitVec 32 := 0#32
  let v1228 : BitVec 1 := Scalar.cmpi .eq c16_i32_885 c0_i32_886
  let c1_i32_887 : BitVec 32 := 1#32
  let v1229 : BitVec 32 := Scalar.select v1228 c1_i32_887 c16_i32_885
  let v1230 : BitVec 32 := Scalar.remsi v1227 v1229
  let c0_i32_889 : BitVec 32 := 0#32
  let v1232 : BitVec 1 := Scalar.cmpi .slt v1230 c0_i32_889
  let c0_i32_890 : BitVec 32 := 0#32
  let v1233 : BitVec 1 := Scalar.cmpi .slt v1229 c0_i32_890
  let v1234 : BitVec 1 := Scalar.xori v1232 v1233
  let c0_i32_888 : BitVec 32 := 0#32
  let v1231 : BitVec 1 := Scalar.cmpi .ne v1230 c0_i32_888
  let v1235 : BitVec 1 := Scalar.andi v1234 v1231
  let v1236 : BitVec 32 := Scalar.addi v1230 v1229
  let v1237 : BitVec 32 := Scalar.select v1235 v1236 v1230
  let c1_i32_894 : BitVec 32 := 1#32
  let v1239 : BitVec 32 := Scalar.muli v1237 c1_i32_894
  let v1240 : BitVec 32 := Scalar.addi c0_i32_895 v1239
  v1240.toNat
def k0_dev43 (d0 : Dev nD) : Nat :=
  let c0_i32_908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_897 : BitVec 32 := 13#32
  let v1246 : BitVec 32 := Scalar.addi v2 c13_i32_897
  let c16_i32_898 : BitVec 32 := 16#32
  let c0_i32_899 : BitVec 32 := 0#32
  let v1247 : BitVec 1 := Scalar.cmpi .eq c16_i32_898 c0_i32_899
  let c1_i32_900 : BitVec 32 := 1#32
  let v1248 : BitVec 32 := Scalar.select v1247 c1_i32_900 c16_i32_898
  let v1249 : BitVec 32 := Scalar.remsi v1246 v1248
  let c0_i32_902 : BitVec 32 := 0#32
  let v1251 : BitVec 1 := Scalar.cmpi .slt v1249 c0_i32_902
  let c0_i32_903 : BitVec 32 := 0#32
  let v1252 : BitVec 1 := Scalar.cmpi .slt v1248 c0_i32_903
  let v1253 : BitVec 1 := Scalar.xori v1251 v1252
  let c0_i32_901 : BitVec 32 := 0#32
  let v1250 : BitVec 1 := Scalar.cmpi .ne v1249 c0_i32_901
  let v1254 : BitVec 1 := Scalar.andi v1253 v1250
  let v1255 : BitVec 32 := Scalar.addi v1249 v1248
  let v1256 : BitVec 32 := Scalar.select v1254 v1255 v1249
  let c1_i32_907 : BitVec 32 := 1#32
  let v1258 : BitVec 32 := Scalar.muli v1256 c1_i32_907
  let v1259 : BitVec 32 := Scalar.addi c0_i32_908 v1258
  v1259.toNat
def k0_dev44 (d0 : Dev nD) : Nat :=
  let c0_i32_921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_910 : BitVec 32 := 14#32
  let v1265 : BitVec 32 := Scalar.addi v2 c14_i32_910
  let c16_i32_911 : BitVec 32 := 16#32
  let c0_i32_912 : BitVec 32 := 0#32
  let v1266 : BitVec 1 := Scalar.cmpi .eq c16_i32_911 c0_i32_912
  let c1_i32_913 : BitVec 32 := 1#32
  let v1267 : BitVec 32 := Scalar.select v1266 c1_i32_913 c16_i32_911
  let v1268 : BitVec 32 := Scalar.remsi v1265 v1267
  let c0_i32_915 : BitVec 32 := 0#32
  let v1270 : BitVec 1 := Scalar.cmpi .slt v1268 c0_i32_915
  let c0_i32_916 : BitVec 32 := 0#32
  let v1271 : BitVec 1 := Scalar.cmpi .slt v1267 c0_i32_916
  let v1272 : BitVec 1 := Scalar.xori v1270 v1271
  let c0_i32_914 : BitVec 32 := 0#32
  let v1269 : BitVec 1 := Scalar.cmpi .ne v1268 c0_i32_914
  let v1273 : BitVec 1 := Scalar.andi v1272 v1269
  let v1274 : BitVec 32 := Scalar.addi v1268 v1267
  let v1275 : BitVec 32 := Scalar.select v1273 v1274 v1268
  let c1_i32_920 : BitVec 32 := 1#32
  let v1277 : BitVec 32 := Scalar.muli v1275 c1_i32_920
  let v1278 : BitVec 32 := Scalar.addi c0_i32_921 v1277
  v1278.toNat
def k0_dev45 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_923 : BitVec 32 := 15#32
  let v1284 : BitVec 32 := Scalar.addi v2 c15_i32_923
  let c16_i32_924 : BitVec 32 := 16#32
  let c0_i32_925 : BitVec 32 := 0#32
  let v1285 : BitVec 1 := Scalar.cmpi .eq c16_i32_924 c0_i32_925
  let c1_i32_926 : BitVec 32 := 1#32
  let v1286 : BitVec 32 := Scalar.select v1285 c1_i32_926 c16_i32_924
  let v1287 : BitVec 32 := Scalar.remsi v1284 v1286
  let c0_i32_928 : BitVec 32 := 0#32
  let v1289 : BitVec 1 := Scalar.cmpi .slt v1287 c0_i32_928
  let c0_i32_929 : BitVec 32 := 0#32
  let v1290 : BitVec 1 := Scalar.cmpi .slt v1286 c0_i32_929
  let v1291 : BitVec 1 := Scalar.xori v1289 v1290
  let c0_i32_927 : BitVec 32 := 0#32
  let v1288 : BitVec 1 := Scalar.cmpi .ne v1287 c0_i32_927
  let v1292 : BitVec 1 := Scalar.andi v1291 v1288
  let v1293 : BitVec 32 := Scalar.addi v1287 v1286
  let v1294 : BitVec 32 := Scalar.select v1292 v1293 v1287
  let c1_i32_933 : BitVec 32 := 1#32
  let v1296 : BitVec 32 := Scalar.muli v1294 c1_i32_933
  let v1297 : BitVec 32 := Scalar.addi c0_i32_934 v1296
  v1297.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S8192x512 : Shape := ⟨2, ![8192, 512]⟩
abbrev S2x128x128x64 : Shape := ⟨4, ![2, 128, 128, 64]⟩
abbrev S2x128x8192 : Shape := ⟨3, ![2, 128, 8192]⟩
abbrev S_ : Shape := ⟨0, ![]⟩
abbrev S2x128x128x1 : Shape := ⟨4, ![2, 128, 128, 1]⟩
abbrev S2x128x128x128 : Shape := ⟨4, ![2, 128, 128, 128]⟩
abbrev S2x128x128 : Shape := ⟨3, ![2, 128, 128]⟩
abbrev S2x128x64x128 : Shape := ⟨4, ![2, 128, 64, 128]⟩

abbrev nBuf : Space → Nat
  | .hbm => 42
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S8192x512, .f32⟩
  | .hbm, ⟨3, _⟩ => ⟨S2x128x128x64, .f32⟩
  | .hbm, ⟨4, _⟩ => ⟨S2x128x128x64, .f32⟩
  | .hbm, ⟨5, _⟩ => ⟨S2x128x8192, .f32⟩
  | .hbm, ⟨6, _⟩ => ⟨S2x128x128x64, .f32⟩
  | .hbm, ⟨7, _⟩ => ⟨S_, .f32⟩
  | .hbm, ⟨8, _⟩ => ⟨S2x128x128x64, .f32⟩
  | .hbm, ⟨9, _⟩ => ⟨S_, .f32⟩
  | .hbm, ⟨10, _⟩ => ⟨S2x128x128x1, .f32⟩
  | .hbm, ⟨11, _⟩ => ⟨S_, .f32⟩
  | .hbm, ⟨12, _⟩ => ⟨S2x128x128x1, .f32⟩
  | .hbm, ⟨13, _⟩ => ⟨S2x128x128x128, .f32⟩
  | .hbm, ⟨14, _⟩ => ⟨S_, .f32⟩
  | .hbm, ⟨15, _⟩ => ⟨S2x128x128x128, .f32⟩
  | .hbm, ⟨16, _⟩ => ⟨S2x128x128x128, .f32⟩
  | .hbm, ⟨17, _⟩ => ⟨S_, .f32⟩
  | .hbm, ⟨18, _⟩ => ⟨S2x128x128, .f32⟩
  | .hbm, ⟨19, _⟩ => ⟨S2x128x128x1, .f32⟩
  | .hbm, ⟨20, _⟩ => ⟨S2x128x128x1, .f32⟩
  | .hbm, ⟨21, _⟩ => ⟨S2x128x128x1, .f32⟩
  | .hbm, ⟨22, _⟩ => ⟨S2x128x128x1, .f32⟩
  | .hbm, ⟨23, _⟩ => ⟨S2x128x128x128, .f32⟩
  | .hbm, ⟨24, _⟩ => ⟨S2x128x128x128, .f32⟩
  | .hbm, ⟨25, _⟩ => ⟨S2x128x128x128, .f32⟩
  | .hbm, ⟨26, _⟩ => ⟨S2x128x128x1, .f32⟩
  | .hbm, ⟨27, _⟩ => ⟨S_, .f32⟩
  | .hbm, ⟨28, _⟩ => ⟨S2x128x128, .f32⟩
  | .hbm, ⟨29, _⟩ => ⟨S2x128x128x1, .f32⟩
  | .hbm, ⟨30, _⟩ => ⟨S2x128x128x1, .f32⟩
  | .hbm, ⟨31, _⟩ => ⟨S2x128x128x1, .f32⟩
  | .hbm, ⟨32, _⟩ => ⟨S2x128x128x64, .f32⟩
  | .hbm, ⟨33, _⟩ => ⟨S2x128x128x64, .f32⟩
  | .hbm, ⟨34, _⟩ => ⟨S2x128x64x128, .f32⟩
  | .hbm, ⟨35, _⟩ => ⟨S2x128x128x64, .f32⟩
  | .hbm, ⟨36, _⟩ => ⟨S2x128x128x64, .f32⟩
  | .hbm, ⟨37, _⟩ => ⟨S2x128x128x1, .f32⟩
  | .hbm, ⟨38, _⟩ => ⟨S2x128x128x64, .f32⟩
  | .hbm, ⟨39, _⟩ => ⟨S2x128x128x64, .f32⟩
  | .hbm, ⟨40, _⟩ => ⟨S2x128x8192, .f32⟩
  | .hbm, ⟨41, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Talk.lean ====
/- The conversation of the sixteen devices: its cells, the element sets that travel, what each copy leaves, and the
   schedule of duties the run is proved against. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Rounds
public import Idealize.ShloMosaic.Lib.Ring
public import Idealize.ShloMosaic.Lib.Tactic
public import Idealize.ShloMosaic.Lib.ValueLayout
public import Idealize.ShloMosaic.Lib.ValueIdx

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal.Gen

variable {F : FTy → Type}

/-! ## Devices at an offset -/

/-- The device `d` places after `c` on the ring of sixteen. -/
def tgt (c : Dev nD) (d : ℕ) : Dev nD := ⟨(c.val + d) % 16, Nat.mod_lt _ (by decide)⟩

/-- The number of the device `d` places on. -/
theorem tgt_val (c : Dev nD) (d : ℕ) : (tgt c d).val = (c.val + d) % 16 := rfl
/-- There are sixteen devices. -/
theorem dev_lt (c : Dev nD) : c.val < 16 := c.isLt
/-- `d` places on and `16 - d` more lead back, -/
theorem tgt_back (c : Dev nD) (d : ℕ) (hd : d ≤ 16) : tgt (tgt c d) (16 - d) = c := by
  apply Fin.ext; have := dev_lt c; simp only [tgt_val]; omega
/-- and so do `16 - d` and then `d`. -/
theorem tgt_fwd (c : Dev nD) (d : ℕ) (hd : d ≤ 16) : tgt (tgt c (16 - d)) d = c := by
  apply Fin.ext; have := dev_lt c; simp only [tgt_val]; omega
/-- No place on is the device itself. -/
theorem tgt_zero (c : Dev nD) : tgt c 0 = c := by
  apply Fin.ext; have := dev_lt c; simp only [tgt_val]; omega

/-! ## The cells -/

/-- The semaphore number of entry `d` of the kernel's `a`-th array of copy semaphores. -/
def dmaIx (a d : ℕ) : DmaSem sig := ⟨(6 + 16 * a + d) % 70, Nat.mod_lt _ (by decide)⟩
/-- The barrier semaphore. -/
abbrev barS : Sem sig := ⟨0, by decide⟩

/-- Device `c`'s barrier cell, and its copy cell `d` of array `a` (0 first sends, 1 first receives, 2 second sends,
    3 second receives). -/
abbrev barCell (c : Dev nD) : GSem nD τ sig := ((c : Thread nD τ), .reg barS)
/-- Device `c`'s copy cell `d` of array `a`. -/
abbrev cpCell (a d : ℕ) (c : Dev nD) : GSem nD τ sig := ((c : Thread nD τ), .dma (dmaIx a d))

/-- The number of a copy semaphore within the arrays. -/
theorem dmaIx_val (a d : ℕ) (ha : a < 4) (hd : d < 16) : (dmaIx a d).val = 6 + 16 * a + d := by
  simp only [dmaIx]; omega

/-- The units one copy of sixteen rows pays. -/
abbrev N : ℕ := (Memref.whole cc0_scratch2 : Memref sig .tc .vmem S16x512 .f32).view.dmaCredit
/-- A copy pays something. -/
theorem N_pos : 0 < N := View.dmaCredit_pos _ (by decide)

/-! ## Element sets and contents -/

/-- Rows `16 r … 16 r + 15` of a 256-row buffer. -/
def rowSet (r : ℕ) : Finset S256x512.Idx := Finset.univ.filter fun i => (i 0).val / 16 = r
/-- Slot `d` of the landing buffer. -/
def slotSet (d : ℕ) : Finset S16x16x512.Idx := Finset.univ.filter fun i => (i 0).val = d

/-- An element is in row block `r` if its row divided by sixteen is `r`. -/
theorem mem_rowSet (r : ℕ) (i : S256x512.Idx) : i ∈ rowSet r ↔ (i 0).val / 16 = r := by simp [rowSet]
/-- An element is in slot `r` if its first index is `r`. -/
theorem mem_slotSet (r : ℕ) (i : S16x16x512.Idx) : i ∈ slotSet r ↔ (i 0).val = r := by simp [slotSet]

/-- Contents of a 256-row buffer, of the 16-row buffer, of the landing buffer. -/
abbrev Big (F : FTy → Type) : Type := S256x512.Idx → Elt F .f32
/-- Contents of the reduced rows. -/
abbrev Small (F : FTy → Type) : Type := S16x512.Idx → Elt F .f32

/-- What device `t`'s landing buffer holds when everyone's partial result is `P`: slot `d` holds rows `16 t …` of the
    device `d` places before. -/
def comF (P : Dev nD → Big F) (t : Dev nD) : S16x16x512.Idx → Elt F .f32 :=
  fun i => P (tgt t (16 - (i 0).val)) (ix2 ⟨16 * t.val + (i 1).val, by have := dev_lt t; have h : (i 1).val < 16 := (i 1).isLt; omega⟩ ⟨(i 2).val, (i 2).isLt⟩)
/-- The result when everyone's reduced rows are `R`: row block `r` is device `r`'s. -/
def outF (R : Dev nD → Small F) : Big F :=
  fun i => R ⟨(i 0).val / 16, by have h : (i 0).val < 256 := (i 0).isLt; show _ < 16; omega⟩ (ix2 ⟨(i 0).val % 16, Nat.mod_lt _ (by decide)⟩ ⟨(i 1).val, (i 1).isLt⟩)

/-- The attention's buffer. -/
abbrev attnB : Ref sig .tc := cc0_scratch0
/-- The partial result's buffer. -/
abbrev partB : Ref sig .tc := cc0_scratch1
/-- The reduced rows' buffer. -/
abbrev redB : Ref sig .tc := cc0_scratch2
/-- The landing buffer. -/
abbrev comB : Ref sig .tc := cc0_scratch3
/-- The result's buffer. -/
abbrev outB : Ref sig .tc := cc0_stg5_0

/-! ## The resource algebra -/

/-- The pipeline library's copy and the conversation's, whose duties are numbered. -/
abbrev UU : Type := UR sig nD τ × Rounds.URounds (GSem nD τ sig) ℕ

local notation "𝕄" => MT nD τ sig Unit (Elt F) ℕ UU ℕ

/-- The ghost state of the operands' transfers. -/
abbrev EP : Emb (UR sig nD τ) (MT nD τ sig Unit (Elt F) ℕ UU ℕ) := embL
/-- The ghost state of the conversation. -/
abbrev ER : Emb (Rounds.URounds (GSem nD τ sig) ℕ) (MT nD τ sig Unit (Elt F) ℕ UU ℕ) := embR

/-- Elements `S` of device `c`'s buffer `b` are owned and hold `f`. -/
abbrev pts (c : Dev nD) (b : Ref sig .tc) (S : Finset (Idx ((c : Thread nD τ).loc b))) (f : Buf (Elt F) ((c : Thread nD τ).loc b)) : sProp 𝕄 :=
  (c : Thread nD τ).loc b ↦[S]{fullShare} f

/-! ## The payloads -/

variable (P : Dev nD → Big F) (R : Dev nD → Small F)

/-- What device `tgt c d` gives with its signal to `c`'s barrier: its landing slot `d`, its rows `c` of the result, and that
    its two receive cells for `c` are at round 0. -/
def barPay (c : Dev nD) (d : ℕ) : sProp 𝕄 :=
  iprop((∃ f, pts (tgt c d) comB (slotSet d) f) ∗ (∃ f, pts (tgt c d) outB (rowSet c.val) f)
    ∗ reached ER (cpCell 1 d (tgt c d)) 0 ∗ reached ER (cpCell 3 d (tgt c d)) 0)

/-- The sixteen shares of the reduced rows: share `d` goes with second send `d`. -/
def shr : ℕ → PosShare TreeShare
  | 0 => (fullShare : PosShare TreeShare)
  | d + 1 => (shr d).right

/-- What a copy cell's duty pays its owner `c`: the source back (a send), the landed rows (a receive). -/
def cpPay (a d : ℕ) (c : Dev nD) : sProp 𝕄 :=
  match a with
  | 0 => pts c partB (rowSet (tgt c d).val) (P c)
  | 1 => pts c comB (slotSet d) (comF P c)
  | 2 => (c : Thread nD τ).loc redB ↦[Finset.univ]{(shr d).left} (R c : Buf (Elt F) ((c : Thread nD τ).loc redB))
  | _ => pts c outB (rowSet (tgt c (16 - d)).val) (outF R)

/-! ## The schedule -/

/-- Duties of round 0: one per peer on the barrier, one on each copy cell but the entries 0. -/
def dutiesOf : SemLoc sig → Finset ℕ
  | .reg s => if s = barS then Finset.Ico 1 16 else ∅
  | .dma s => if 6 ≤ s.val ∧ (s.val - 6) % 16 ≠ 0 then {0} else ∅

/-- The schedule: at round 0 each cell's duties, a unit each on a barrier and a copy's units each on a copy cell, with their payloads. -/
def talk : Rounds.Schedule (GSem nD τ sig) ℕ 𝕄 where
  duties g r := if r = 0 ∧ g.1.2 = .tc then dutiesOf g.2 else ∅
  unitless _ := False
  amount g _ _ := match g.2 with
    | .reg _ => 1
    | .dma _ => N
  payload g _ d := match g.2 with
    | .reg _ => barPay g.1.1 d
    | .dma s => cpPay P R ((s.val - 6) / 16) ((s.val - 6) % 16) g.1.1
  amount_pos g _ _ _ := by
    rcases h : g.2 with s | s
    · exact Nat.one_pos
    · exact N_pos

/-- Every payload may be kept in a cell. -/
instance talk_storable (g : GSem nD τ sig) (r : ℕ) (d : ℕ) :
    BI.Storable (upEmb : UEmb _ 𝕄) ((talk (F := F) P R).payload g r d) := by
  rcases g with ⟨⟨c, k⟩, s | s⟩
  · show BI.Storable upEmb (barPay c d)
    unfold barPay; infer_instance
  · show BI.Storable upEmb (cpPay P R ((s.val - 6) / 16) ((s.val - 6) % 16) c)
    unfold cpPay; split <;> infer_instance

section Sched

variable (c : Dev nD)

/-- A barrier has a duty for each peer, -/
theorem duties_bar : (talk (F := F) P R).duties (barCell c) 0 = Finset.Ico 1 16 := by
  dsimp only [talk]
  rw [if_pos ⟨rfl, rfl⟩]; rfl

/-- a copy cell has one, -/
theorem duties_cp (a d : ℕ) (ha : a < 4) (hd : d < 16) (h0 : 1 ≤ d) : (talk (F := F) P R).duties (cpCell a d c) 0 = {0} := by
  dsimp only [talk]
  rw [if_pos ⟨rfl, rfl⟩]
  dsimp only [dutiesOf]
  rw [if_pos]
  rw [dmaIx_val a d ha hd]; omega

/-- and after round 0 there are none. -/
theorem duties_later (g : GSem nD τ sig) : ∀ r, 1 ≤ r → (talk (F := F) P R).duties g r = ∅ := fun r hr => by
  show (if _ then _ else _) = _
  exact if_neg fun h => by omega

/-- A barrier's duty is one unit, -/
theorem amount_bar (d : ℕ) : (talk (F := F) P R).amount (barCell c) 0 d = 1 := rfl
/-- a copy cell's is what one copy pays. -/
theorem amount_cp (a e d : ℕ) : (talk (F := F) P R).amount (cpCell a e c) 0 d = N := rfl

/-- A barrier expects fifteen units, -/
theorem expect_bar : (talk (F := F) P R).expect (barCell c) 0 = 15 := by
  unfold Schedule.expect Schedule.amountOf; rw [duties_bar]; rfl
/-- a copy cell what one copy pays. -/
theorem expect_cp (a d : ℕ) (ha : a < 4) (hd : d < 16) (h0 : 1 ≤ d) : (talk (F := F) P R).expect (cpCell a d c) 0 = N := by
  unfold Schedule.expect Schedule.amountOf; rw [duties_cp P R c a d ha hd h0, Finset.sum_singleton]; rfl

/-- The payload of a barrier's duty, -/
theorem payload_bar (d : ℕ) : (talk (F := F) P R).payload (barCell c) 0 d = barPay c d := rfl
/-- and of a copy cell's. -/
theorem payload_cp (a d e : ℕ) (ha : a < 4) (hd : d < 16) : (talk (F := F) P R).payload (cpCell a d c) 0 e = cpPay P R a d c := by
  show cpPay P R (((dmaIx a d).val - 6) / 16) (((dmaIx a d).val - 6) % 16) c = _
  rw [dmaIx_val a d ha hd]
  congr 1 <;> omega

/-- All that a barrier's wait hands over: each peer's payload. -/
theorem rest_bar : bigSep ((talk (F := F) P R).duties (barCell c) 0 \ ∅) (fun u => (talk (F := F) P R).payload (barCell c) 0 u)
    = bigSep (Finset.Ico 1 16) (fun d => barPay (F := F) c d) := by
  rw [Finset.sdiff_empty, duties_bar]; rfl
/-- All that a copy cell's wait hands over: its one payload. -/
theorem rest_cp (a d : ℕ) (ha : a < 4) (hd : d < 16) (h0 : 1 ≤ d) :
    bigSep ((talk (F := F) P R).duties (cpCell a d c) 0 \ ∅) (fun u => (talk (F := F) P R).payload (cpCell a d c) 0 u) = cpPay P R a d c := by
  rw [Finset.sdiff_empty, duties_cp P R c a d ha hd h0, bigSep_singleton, payload_cp P R c a d 0 ha hd]

end Sched

/-! ## What each core owes at launch; the levels -/

/-- Still owed to the barriers from offset `d` on; to the first receives; to the second receives. -/
def oweB (c : Dev nD) (d : ℕ) : CellTallies nD τ sig Unit := ∑ e ∈ Finset.Ico d 16, tallyAt (barCell (tgt c e)) () 1
/-- What device `c` owes to its peers' cells of array `a`, from peer `d` on. -/
def oweR (a : ℕ) (c : Dev nD) (d : ℕ) : CellTallies nD τ sig Unit := ∑ e ∈ Finset.Ico d 16, tallyAt (cpCell a e (tgt c e)) () N

/-- What device `c` owes at launch. -/
def O₀ (c : Dev nD) : CellTallies nD τ sig Unit := (oweR 3 c 1 + oweR 1 c 1) + oweB c 1

/-- What is owed to the barriers from peer `d` on is that from the next peer on and one unit, -/
theorem oweB_step (c : Dev nD) (d : ℕ) (hd : d < 16) : oweB c d = oweB c (d + 1) + tallyAt (barCell (tgt c d)) () 1 := by
  unfold oweB; rw [Finset.sum_eq_sum_Ico_succ_bot hd, add_comm]
/-- and so with the copy cells. -/
theorem oweR_step (a : ℕ) (c : Dev nD) (d : ℕ) (hd : d < 16) :
    oweR a c d = oweR a c (d + 1) + tallyAt (cpCell a d (tgt c d)) () N := by
  unfold oweR; rw [Finset.sum_eq_sum_Ico_succ_bot hd, add_comm]
/-- After the last peer nothing is owed to the barriers, -/
theorem oweB_done (c : Dev nD) : oweB c 16 = 0 := rfl
/-- nor to the copy cells. -/
theorem oweR_done (a : ℕ) (c : Dev nD) : oweR a c 16 = 0 := rfl

/-- Only the cells of the main cores have a level. -/
def L (g : GSem nD τ sig) : Finset Unit := if g.1.2 = .tc then {()} else ∅
/-- Barriers at 1, first receives at 2, second receives at 3, the rest at 0. -/
def lv (g : GSem nD τ sig) (_ : Unit) : ℕ :=
  match g.2 with
  | .reg _ => 1
  | .dma s => if 6 ≤ s.val ∧ (s.val - 6) / 16 = 1 then 2 else if 6 ≤ s.val ∧ (s.val - 6) / 16 = 3 then 3 else 0

/-- Other cells have none. -/
theorem L_of_ne (g : GSem nD τ sig) (h : g.1.2 ≠ .tc) : L g = ∅ := if_neg h
/-- A main core's cell has its one level. -/
theorem L_tc (c : Dev nD) (sm : SemLoc sig) : L ((c : Thread nD τ), sm) = {()} := if_pos rfl

/-- Barriers are at level 1, -/
theorem lv_bar (c : Dev nD) : lv (barCell c) () = 1 := rfl
/-- first receives at 2, -/
theorem lv_cp1 (c : Dev nD) (d : ℕ) (hd : d < 16) : lv (cpCell 1 d c) () = 2 := by
  show (if _ then _ else _) = _
  rw [dmaIx_val 1 d (by decide) hd, if_pos (by omega)]
/-- second receives at 3. -/
theorem lv_cp3 (c : Dev nD) (d : ℕ) (hd : d < 16) : lv (cpCell 3 d c) () = 3 := by
  show (if _ then _ else _) = _
  rw [dmaIx_val 3 d (by decide) hd, if_neg (by omega), if_pos (by omega)]

/-- A sum of single tallies is positive only at one of its cells. -/
theorem sum_tally_pos (s : Finset ℕ) (T : ℕ → GSem nD τ sig) (n : ℕ) (g : GSem nD τ sig) (u : Unit)
    (h : 0 < (∑ e ∈ s, tallyAt (T e) () n : CellTallies nD τ sig Unit) g u) : ∃ e ∈ s, g = T e := by
  by_contra hne
  have h0 : (∑ e ∈ s, tallyAt (T e) () n : CellTallies nD τ sig Unit) g u = 0 := by
    rw [Finset.sum_apply, Finsupp.finset_sum_apply]
    refine Finset.sum_eq_zero fun e he => ?_
    rw [tallyAt_apply, if_neg fun hc => hne ⟨e, he, hc.1⟩]
  omega

/-- A device may wait on a cell at level at most `n` if all it owes lies above `n`. -/
theorem mayWait_of (c : Dev nD) (sm : SemLoc sig) (n : ℕ) (O : CellTallies nD τ sig Unit) (hsm : lv ((c : Thread nD τ), sm) () ≤ n)
    (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- Something owed of a sum is owed of a part. -/
theorem owe_add_pos {O O' : CellTallies nD τ sig Unit} {g : GSem nD τ sig} {u : Unit} (h : 0 < (O + O') g u) : 0 < O g u ∨ 0 < O' g u := by
  have : (O + O') g u = O g u + O' g u := rfl
  omega

/-- What is owed to the barriers lies above 0, -/
theorem oweB_pos (c : Dev nD) (d : ℕ) (g : GSem nD τ sig) (u : Unit) (h : 0 < oweB c d g u) : g.1.2 = .tc ∧ 0 < lv g u := by
  obtain ⟨e, -, rfl⟩ := sum_tally_pos _ _ _ g u h
  exact ⟨rfl, Nat.one_pos⟩
/-- to the first receives above 1, -/
theorem oweR1_pos (c : Dev nD) (d : ℕ) (g : GSem nD τ sig) (u : Unit) (h : 0 < oweR 1 c d g u) : g.1.2 = .tc ∧ 1 < lv g u := by
  obtain ⟨e, he, rfl⟩ := sum_tally_pos _ _ _ g u h
  refine ⟨rfl, ?_⟩; rw [lv_cp1 _ _ (Finset.mem_Ico.mp he).2]; decide
/-- to the second receives above 2. -/
theorem oweR3_pos (c : Dev nD) (d : ℕ) (g : GSem nD τ sig) (u : Unit) (h : 0 < oweR 3 c d g u) : g.1.2 = .tc ∧ 2 < lv g u := by
  obtain ⟨e, he, rfl⟩ := sum_tally_pos _ _ _ g u h
  refine ⟨rfl, ?_⟩; rw [lv_cp3 _ _ (Finset.mem_Ico.mp he).2]; decide

/-- Everything owed at launch lies above the copy cells of the staging buffers. -/
theorem O₀_pos (c : Dev nD) (g : GSem nD τ sig) (u : Unit) (h : 0 < O₀ c g u) : g.1.2 = .tc ∧ 0 < lv g u := by
  rcases owe_add_pos h with h | h
  · rcases owe_add_pos h with h | h
    · exact ⟨(oweR3_pos _ _ _ _ h).1, by have := (oweR3_pos _ _ _ _ h).2; omega⟩
    · exact ⟨(oweR1_pos _ _ _ _ h).1, by have := (oweR1_pos _ _ _ _ h).2; omega⟩
  · exact oweB_pos _ _ _ _ h

/-- A device that has signalled may wait on its barrier, -/
theorem mayWait_bar (c : Dev nD) :
    (levAts L lv : sProp 𝕄) ⊢ MayWait (c : Thread nD τ) (.reg barS) () (oweR 3 c 1 + oweR 1 c 1) :=
  mayWait_of c _ 1 _ (lv_bar c).le fun g u h => by
    rcases owe_add_pos h with h | h
    · exact ⟨(oweR3_pos _ _ _ _ h).1, by have := (oweR3_pos _ _ _ _ h).2; omega⟩
    · exact oweR1_pos _ _ _ _ h

/-- and, after the first sends, for a first receive. -/
theorem mayWait_cp1 (c : Dev nD) (d : ℕ) (hd : d < 16) :
    (levAts L lv : sProp 𝕄) ⊢ MayWait (c : Thread nD τ) (.dma (dmaIx 1 d)) () (oweR 3 c 1) :=
  mayWait_of c _ 2 _ (lv_cp1 c d hd).le fun g u h => oweR3_pos _ _ _ _ h

end Cert.KernelIdeal.Talk

end
-- ==== Proof.Loops.lean ====
/- The kernel's text as loops: the same operations in the same order, written over the offsets, the heads and the phases. -/
module

public import proofs.«01_k».proof.Proof.Talk

@[expose] public section

noncomputable section

namespace Cert.KernelIdeal.Loops

open Idealize.ShloMosaic Idealize.ShloMosaic.TcCoe
open Idealize.SL Idealize.SL.Sem
open Cert.KernelIdeal.Gen Cert.KernelIdeal.Talk

variable {F : FTy → Type} [FloatOps F]

/-- Kernel texts that return nothing. -/
abbrev Pg (F : FTy → Type) := Prog (TpuEff nD τ sig (Elt F) Λ₀ .tc) PUnit

/-! ## The devices and rectangles the printed text computes -/

/-- The device signal `d` goes to. -/
def sigDev : Fin 16 → Dev nD → Dev nD := ![id, fun c => ⟨k0_dev1 c, k0_dev1_lt c⟩, fun c => ⟨k0_dev2 c, k0_dev2_lt c⟩, fun c => ⟨k0_dev3 c, k0_dev3_lt c⟩, fun c => ⟨k0_dev4 c, k0_dev4_lt c⟩, fun c => ⟨k0_dev5 c, k0_dev5_lt c⟩, fun c => ⟨k0_dev6 c, k0_dev6_lt c⟩, fun c => ⟨k0_dev7 c, k0_dev7_lt c⟩, fun c => ⟨k0_dev8 c, k0_dev8_lt c⟩, fun c => ⟨k0_dev9 c, k0_dev9_lt c⟩, fun c => ⟨k0_dev10 c, k0_dev10_lt c⟩, fun c => ⟨k0_dev11 c, k0_dev11_lt c⟩, fun c => ⟨k0_dev12 c, k0_dev12_lt c⟩, fun c => ⟨k0_dev13 c, k0_dev13_lt c⟩, fun c => ⟨k0_dev14 c, k0_dev14_lt c⟩, fun c => ⟨k0_dev15 c, k0_dev15_lt c⟩]
/-- The device first send `d` goes to. -/
def oneDev : Fin 16 → Dev nD → Dev nD := ![id, fun c => ⟨k0_dev16 c, k0_dev16_lt c⟩, fun c => ⟨k0_dev17 c, k0_dev17_lt c⟩, fun c => ⟨k0_dev18 c, k0_dev18_lt c⟩, fun c => ⟨k0_dev19 c, k0_dev19_lt c⟩, fun c => ⟨k0_dev20 c, k0_dev20_lt c⟩, fun c => ⟨k0_dev21 c, k0_dev21_lt c⟩, fun c => ⟨k0_dev22 c, k0_dev22_lt c⟩, fun c => ⟨k0_dev23 c, k0_dev23_lt c⟩, fun c => ⟨k0_dev24 c, k0_dev24_lt c⟩, fun c => ⟨k0_dev25 c, k0_dev25_lt c⟩, fun c => ⟨k0_dev26 c, k0_dev26_lt c⟩, fun c => ⟨k0_dev27 c, k0_dev27_lt c⟩, fun c => ⟨k0_dev28 c, k0_dev28_lt c⟩, fun c => ⟨k0_dev29 c, k0_dev29_lt c⟩, fun c => ⟨k0_dev30 c, k0_dev30_lt c⟩]
/-- The device second send `d` goes to. -/
def twoDev : Fin 16 → Dev nD → Dev nD := ![id, fun c => ⟨k0_dev31 c, k0_dev31_lt c⟩, fun c => ⟨k0_dev32 c, k0_dev32_lt c⟩, fun c => ⟨k0_dev33 c, k0_dev33_lt c⟩, fun c => ⟨k0_dev34 c, k0_dev34_lt c⟩, fun c => ⟨k0_dev35 c, k0_dev35_lt c⟩, fun c => ⟨k0_dev36 c, k0_dev36_lt c⟩, fun c => ⟨k0_dev37 c, k0_dev37_lt c⟩, fun c => ⟨k0_dev38 c, k0_dev38_lt c⟩, fun c => ⟨k0_dev39 c, k0_dev39_lt c⟩, fun c => ⟨k0_dev40 c, k0_dev40_lt c⟩, fun c => ⟨k0_dev41 c, k0_dev41_lt c⟩, fun c => ⟨k0_dev42 c, k0_dev42_lt c⟩, fun c => ⟨k0_dev43 c, k0_dev43_lt c⟩, fun c => ⟨k0_dev44 c, k0_dev44_lt c⟩, fun c => ⟨k0_dev45 c, k0_dev45_lt c⟩]

/-- Signal `d` goes `d` places on. -/
theorem sigDev_eq : ∀ (d : Fin 16) (c : Dev nD), sigDev d c = tgt c d := by decide +kernel
/-- First send `d` goes `d` places on. -/
theorem oneDev_eq : ∀ (d : Fin 16) (c : Dev nD), oneDev d c = tgt c d := by decide +kernel
/-- Second send `d` goes `d` places on. -/
theorem twoDev_eq : ∀ (d : Fin 16) (c : Dev nD), twoDev d c = tgt c d := by decide +kernel

/-- The rows first send `d` reads: the printed row arithmetic at the offset. -/
theorem off1_inb (c : Dev nD) (d : ℕ) (h1 : 1 ≤ d) (hd : d < 16) : ∀ a, k0_off1 c (BitVec.ofNat 32 d) a + S16x512.size a ≤ S256x512.size a := by
  obtain ⟨e, rfl⟩ : ∃ e, d = 1 + e := ⟨d - 1, by omega⟩
  exact k0_off1_inb c ⟨e, by omega⟩
/-- Slot `d` lies in the landing buffer. -/
theorem slot_inb (d : ℕ) (hd : d < 16) : ∀ a, (![d, 0, 0] : Fin 3 → ℕ) a + S1x16x512.size a ≤ S16x16x512.size a := by
  intro a; fin_cases a
  · show d + 1 ≤ 16; omega
  · show 0 + 16 ≤ 16; omega
  · show 0 + 512 ≤ 512; omega
/-- Entry `d` lies in its array of semaphores. -/
theorem sem_inb (d : ℕ) (hd : d < 16) : ∀ a, (![d] : Fin 1 → ℕ) a + S1.size a ≤ S16.size a := by
  intro a; fin_cases a; show d + 1 ≤ 16; omega
/-- Head `i` lies in the keys and in the values. -/
theorem kv_inb (i : ℕ) (hi : i < 16) : ∀ a, (![i, 0, 0] : Fin 3 → ℕ) a + S1x128x64.size a ≤ S16x128x64.size a := by
  intro a; fin_cases a
  · show i + 1 ≤ 16; omega
  · show 0 + 128 ≤ 128; omega
  · show 0 + 64 ≤ 64; omega
/-- Where head `i` (batch `i / 8`, local head `i % 8`) sits in the query matrix and in the attention buffer. -/
abbrev hOff (i : ℕ) : Fin 2 → ℕ := ![128 * (i / 8), 64 * (i % 8)]
/-- Head `i` lies in the attention. -/
theorem head_inb (i : ℕ) (hi : i < 16) : ∀ a, hOff i a + S128x64.size a ≤ S256x512.size a := by
  intro a; fin_cases a
  · show 128 * (i / 8) + 128 ≤ 256; omega
  · show 64 * (i % 8) + 64 ≤ 512; omega

/-! ## The memory the text names -/

/-- The whole of `x`. -/
abbrev xM : Memref sig .tc .vmem S256x512 .f32 := Memref.whole cc0_stg0_0
/-- The whole of the query weights. -/
abbrev qM : Memref sig .tc .vmem S512x512 .f32 := Memref.whole cc0_stg1_0
/-- The whole of the output weights. -/
abbrev oM : Memref sig .tc .vmem S512x512 .f32 := Memref.whole cc0_stg2_0
/-- The whole of the keys. -/
abbrev kM : Memref sig .tc .vmem S16x128x64 .f32 := Memref.whole cc0_stg3_0
/-- The whole of the values. -/
abbrev vM : Memref sig .tc .vmem S16x128x64 .f32 := Memref.whole cc0_stg4_0
/-- The whole result. -/
abbrev outM : Memref sig .tc .vmem S256x512 .f32 := Memref.whole cc0_stg5_0
/-- The whole attention. -/
abbrev attnM : Memref sig .tc .vmem S256x512 .f32 := Memref.whole cc0_scratch0
/-- The whole partial result. -/
abbrev partM : Memref sig .tc .vmem S256x512 .f32 := Memref.whole cc0_scratch1
/-- All the reduced rows. -/
abbrev redM : Memref sig .tc .vmem S16x512 .f32 := Memref.whole cc0_scratch2
/-- The whole landing buffer. -/
abbrev comM : Memref sig .tc .vmem S16x16x512 .f32 := Memref.whole cc0_scratch3

/-- The barrier semaphore, as the text reaches it. -/
abbrev barSem : Sem sig := (SemArray.scalar (sig.barrier 0 rfl) : Sems sig S_).sem
/-- Entry `d` of an array of copy semaphores, as the text reaches it. -/
abbrev entry (A : DmaSems sig S16) (d : ℕ) (hd : d < 16) : DmaSem sig :=
  ((A.slice (Rect.unit (s := S16) ![d] S1.size (sem_inb d hd))).squeeze S_ squeezes_S1_S_).sem
/-- Landing slot `d`, the rows first send `d` reads, the rows the device owns in the result. -/
abbrev slotM (d : ℕ) (hd : d < 16) : Memref sig .tc .vmem S16x512 .f32 :=
  (comM.slice (Rect.unit (s := S16x16x512) ![d, 0, 0] S1x16x512.size (slot_inb d hd)) (fun _ => rfl)).squeeze S16x512 squeezes_S1x16x512_S16x512
/-- The rows first send `d` reads. -/
abbrev rowsM (c : Dev nD) (d : ℕ) (h1 : 1 ≤ d) (hd : d < 16) : Memref sig .tc .vmem S16x512 .f32 :=
  partM.slice (Rect.unit (s := S256x512) (k0_off1 c (BitVec.ofNat 32 d)) S16x512.size (off1_inb c d h1 hd)) (fun _ => rfl)
/-- The rows of the result that a second send writes. -/
abbrev ownM (c : Dev nD) : Memref sig .tc .vmem S16x512 .f32 :=
  outM.slice (Rect.unit (s := S256x512) (k0_off3 c) S16x512.size (k0_off3_inb c)) (fun _ => rfl)

/-! ## What is computed -/

/-- One head: queries of the head against its keys, scaled; the exponentials over their row maximum; times the values; over
    the row sum. -/
def headCore (q : FVec F S128x64 .f32) (k v : FVec F S128x64 .f32) : FVec F S128x64 .f32 :=
  let sc : FVec F S128x128 .f32 := mulf (matmul dot_S128x64_S128x64_S128x128_1_1_0_0_n_n none q k (constant S128x128 .f32 0x00000000#32))
    (broadcast S128x128 (Scalar.ofBits .f32 0x3E000000#32))
  let p : FVec F S128x128 .f32 := exp (subf sc (broadcastTo S128x128 (shapeCast S128x1 (multiReduction .maximumf [1] S128 sc 0xFF800000#32 reduces_S128x128_S128 (.inl rfl) rfl) shapeCasts_S128_S128x1) broadcasts_S128x1_S128x128))
  divf (matmul dot_S128x128_S128x64_S128x64_1_0_0_1_n_n none p v (constant S128x64 .f32 0x00000000#32))
    (broadcastTo S128x64 (shapeCast S128x1 (multiReduction .add [1] S128 p 0x00000000#32 reduces_S128x128_S128 (.inl rfl) rfl) shapeCasts_S128_S128x1) broadcasts_S128x1_S128x64)
/-- Head `i` can be cut out of all queries. -/
theorem head_slices (i : ℕ) (hi : i < 16) : S256x512.Slices (hOff i) S128x64 := ⟨rfl, head_inb i hi⟩
/-- Head `i` from all queries and the head's keys and values as they are stored. -/
def head (q : FVec F S256x512 .f32) (i : ℕ) (hi : i < 16) (k v : Vec F S1x128x64 .f32) : FVec F S128x64 .f32 :=
  shapeCast S128x64 (headCore (extractStridedSlice S128x64 (hOff i) q (head_slices i hi))
    (shapeCast S128x64 k shapeCasts_S1x128x64_S128x64) (shapeCast S128x64 v shapeCasts_S1x128x64_S128x64)) shapeCasts_S128x64_S128x64
/-- One step of the reduction. -/
def accum (acc : FVec F S16x512 .f32) (v : Vec F S1x16x512 .f32) : FVec F S16x512 .f32 :=
  addf acc (shapeCast S16x512 v shapeCasts_S1x16x512_S16x512)

/-! ## The phases -/

/-- A phase: the same step for peers `d, d+1, …, d+n-1`. -/
def phase (step : (d : ℕ) → 1 ≤ d → d < 16 → Pg F → Pg F) : (n d : ℕ) → d + n = 16 → 1 ≤ d → Pg F → Pg F
  | 0, _, _, _, k => k
  | n + 1, d, h, h1, k => step d h1 (by omega) (phase step n (d + 1) (by omega) (by omega) k)

/-- A signal to device `t`. -/
def signalTo (t : Dev nD) (k : Pg F) : Pg F := (semSignalWord t barSem 1#32).bind fun _ => k
/-- A first send to device `t`: the rows of the partial result `t` owns, into `t`'s slot `d`. -/
def sendOne (c : Dev nD) (d : ℕ) (h1 : 1 ≤ d) (hd : d < 16) (t : Dev nD) (a b : DmaSem sig) (k : Pg F) : Pg F :=
  .op (.enqueueDma (rowsM c d h1 hd) (.remote (Dev.tc t) (slotM d hd) (.dma a)) (.dma b) (View.wordExact_bits rfl) ((View.wordExact_bits rfl).reshape _ _) ⟨⟨rfl, Or.inl rfl⟩, trivial⟩) fun _ => k
/-- A second send to device `t`: the reduced rows, into the same rows of `t`'s result. -/
def sendTwo (c t : Dev nD) (a b : DmaSem sig) (k : Pg F) : Pg F :=
  .op (.enqueueDma redM (.remote (Dev.tc t) (ownM c) (.dma a)) (.dma b) (Memref.isWhole_whole _).wordExact (View.wordExact_bits rfl) ⟨⟨rfl, Or.inl rfl⟩, trivial⟩) fun _ => k
/-- The waits for a second receive, a first send and a second send. -/
def waitR (c : Dev nD) (a : DmaSem sig) (k : Pg F) : Pg F :=
  .op (.waitDma2 a redM (ownM c) (Memref.isWhole_whole _).wordExact (View.wordExact_bits rfl)) fun _ => k
/-- The wait for first send `d`. -/
def waitS (c : Dev nD) (d : ℕ) (h1 : 1 ≤ d) (hd : d < 16) (a : DmaSem sig) (k : Pg F) : Pg F :=
  .op (.waitDma2 a (slotM d hd) (rowsM c d h1 hd) ((View.wordExact_bits rfl).reshape _ _) (View.wordExact_bits rfl)) fun _ => k
/-- The wait for a second send. -/
def waitT (c : Dev nD) (a : DmaSem sig) (k : Pg F) : Pg F :=
  .op (.waitDma2 a (ownM c) redM (View.wordExact_bits rfl) (Memref.isWhole_whole _).wordExact) fun _ => k

/-- The signals to all peers. -/
def signals (c : Dev nD) : Pg F → Pg F := phase (fun d _ hd => signalTo (sigDev ⟨d, hd⟩ c)) 15 1 rfl le_rfl
/-- The first sends to all peers. -/
def sends1 (c : Dev nD) : Pg F → Pg F := phase (fun d h1 hd => sendOne c d h1 hd (oneDev ⟨d, hd⟩ c) (entry cc0_scratch4 d hd) (entry cc0_scratch5 d hd)) 15 1 rfl le_rfl
/-- The second sends to all peers. -/
def sends2 (c : Dev nD) : Pg F → Pg F := phase (fun d _ hd => sendTwo c (twoDev ⟨d, hd⟩ c) (entry cc0_scratch6 d hd) (entry cc0_scratch7 d hd)) 15 1 rfl le_rfl
/-- The waits for all second receives. -/
def waitsR (c : Dev nD) : Pg F → Pg F := phase (fun d _ hd => waitR c (entry cc0_scratch7 d hd)) 15 1 rfl le_rfl
/-- The waits for all first sends. -/
def waitsS (c : Dev nD) : Pg F → Pg F := phase (fun d h1 hd => waitS c d h1 hd (entry cc0_scratch4 d hd)) 15 1 rfl le_rfl
/-- The waits for all second sends. -/
def waitsT (c : Dev nD) : Pg F → Pg F := phase (fun d _ hd => waitT c (entry cc0_scratch6 d hd)) 15 1 rfl le_rfl

/-- Heads `i, …, i+n-1`. -/
def heads (q : FVec F S256x512 .f32) : (n i : ℕ) → i + n = 16 → Pg F → Pg F
  | 0, _, _, k => k
  | n + 1, i, h, k =>
    .op (.load kM (Rect.unit (s := S16x128x64) ![i, 0, 0] S1x128x64.size (kv_inb i (by omega))).toLoadRect (View.loadsAt_vmem h_S1x128x64)) fun kk =>
    .op (.load vM (Rect.unit (s := S16x128x64) ![i, 0, 0] S1x128x64.size (kv_inb i (by omega))).toLoadRect (View.loadsAt_vmem h_S1x128x64)) fun vv =>
    .op (.load attnM (Rect.unit (s := S256x512) (hOff i) S128x64.size (head_inb i (by omega))).toLoadRect (View.loadsAt_vmem h_S128x64)) fun _ =>
    .op (.store attnM (Rect.unit (s := S256x512) (hOff i) S128x64.size (head_inb i (by omega))) (head q i (by omega) kk vv) Finset.univ (View.stores_vmem_bits_univ h_S128x64 rfl) (.inl rfl)) fun _ =>
    heads q n (i + 1) (by omega) k

/-- First receives `d, …`: wait, load the slot, add. -/
def recvs (c : Dev nD) : (n d : ℕ) → d + n = 16 → 1 ≤ d → FVec F S16x512 .f32 → (FVec F S16x512 .f32 → Pg F) → Pg F
  | 0, _, _, _, acc, k => k acc
  | n + 1, d, h, h1, acc, k =>
    .op (.waitDma2 (entry cc0_scratch5 d (by omega)) (rowsM c d h1 (by omega)) (slotM d (by omega)) (View.wordExact_bits rfl) ((View.wordExact_bits rfl).reshape _ _)) fun _ =>
    .op (.load comM (Rect.unit (s := S16x16x512) ![d, 0, 0] S1x16x512.size (slot_inb d (by omega))).toLoadRect (View.loadsAt_vmem h_S1x16x512)) fun v =>
    recvs c n (d + 1) (by omega) (by omega) (accum acc v) k

/-- Everything after the second sends. -/
def tailP (c : Dev nD) : Pg F :=
  .op (.load redM (Rect.unit (s := S16x512) ![0, 0] S16x512.size inb_S16x512_S16x512_0_0).toLoadRect (View.loadsAt_vmem h_S16x512)) fun v =>
  .op (.load outM (Rect.unit (s := S256x512) (k0_off2 c) S16x512.size (k0_off2_inb c)).toLoadRect (View.loadsAt_vmem h_S16x512)) fun _ =>
  .op (.store outM (Rect.unit (s := S256x512) (k0_off2 c) S16x512.size (k0_off2_inb c)) v Finset.univ (View.stores_vmem_bits_univ h_S16x512 rfl) (.inl rfl)) fun _ =>
  waitsR c (waitsS c (waitsT c (.ret ⟨⟩)))

/-- From the reduction on. -/
def midP (c : Dev nD) : Pg F :=
  .op (.load partM (Rect.unit (s := S256x512) (k0_off2 c) S16x512.size (k0_off2_inb c)).toLoadRect (View.loadsAt_vmem h_S16x512)) fun (own : Vec F S16x512 .f32) =>
  recvs c 15 1 rfl le_rfl own fun acc =>
  .op (.load redM (Rect.unit (s := S16x512) ![0, 0] S16x512.size inb_S16x512_S16x512_0_0).toLoadRect (View.loadsAt_vmem h_S16x512)) fun _ =>
  .op (.store redM (Rect.unit (s := S16x512) ![0, 0] S16x512.size inb_S16x512_S16x512_0_0) (shapeCast S16x512 acc shapeCasts_S16x512_S16x512) Finset.univ (View.stores_vmem_bits_univ h_S16x512 rfl) (.inl rfl)) fun _ =>
  sends2 c (tailP c)

/-- From the projection on. -/
def projP (c : Dev nD) : Pg F :=
  .op (.load attnM (Rect.unit (s := S256x512) ![0, 0] S256x512.size inb_S256x512_S256x512_0_0).toLoadRect (View.loadsAt_vmem h_S256x512)) fun at' =>
  .op (.load oM (Rect.unit (s := S512x512) ![0, 0] S512x512.size inb_S512x512_S512x512_0_0).toLoadRect (View.loadsAt_vmem h_S512x512)) fun wo =>
  .op (.load partM (Rect.unit (s := S256x512) ![0, 0] S256x512.size inb_S256x512_S256x512_0_0).toLoadRect (View.loadsAt_vmem h_S256x512)) fun _ =>
  .op (.store partM (Rect.unit (s := S256x512) ![0, 0] S256x512.size inb_S256x512_S256x512_0_0) (k0_pay33 at' wo) Finset.univ (View.stores_vmem_bits_univ h_S256x512 rfl) (.inl rfl)) fun _ =>
  sends1 c (midP c)

/-- The whole text. -/
def looped : Pg F :=
  .op .deviceId fun c =>
  signals c <|
  (semWaitWord barSem 15#32).bind fun _ =>
  .op (.load xM (Rect.unit (s := S256x512) ![0, 0] S256x512.size inb_S256x512_S256x512_0_0).toLoadRect (View.loadsAt_vmem h_S256x512)) fun x =>
  .op (.load qM (Rect.unit (s := S512x512) ![0, 0] S512x512.size inb_S512x512_S512x512_0_0).toLoadRect (View.loadsAt_vmem h_S512x512)) fun wq =>
  heads (k0_pay1 x wq) 16 0 rfl (projP c)

end Cert.KernelIdeal.Loops
-- ==== Proof.Same.lean ====
/- The printed kernel is the loops of `Loops.lean`. -/
module

public import proofs.«01_k».proof.Proof.Loops

@[expose] public section

noncomputable section

namespace Cert.KernelIdeal.Loops

open Idealize.ShloMosaic Idealize.ShloMosaic.TcCoe
open Idealize.SL Idealize.SL.Sem
open Cert.KernelIdeal.Gen Cert.KernelIdeal.Talk

variable {F : FTy → Type} [FloatOps F]

set_option maxRecDepth 100000 in
/-- The printed body on the memory the pipeline passes it is `looped`: by unfolding both. -/
theorem bodyAt_eq : bodyAt0 (F := F) t0_0 = looped := by
  show cc0_body (F := F) xM (Memref.isWhole_whole _) qM (Memref.isWhole_whole _) oM (Memref.isWhole_whole _) kM (Memref.isWhole_whole _) vM (Memref.isWhole_whole _) outM (Memref.isWhole_whole _) attnM (Memref.isWhole_whole _) partM (Memref.isWhole_whole _) redM (Memref.isWhole_whole _) comM (Memref.isWhole_whole _) cc0_scratch4 cc0_scratch5 cc0_scratch6 cc0_scratch7 = looped
  rfl

end Cert.KernelIdeal.Loops
-- ==== Proof.Geometry.lean ====
/- Which elements each view of the kernel names, and what a landing or a load through it makes. -/
module

public import proofs.«01_k».proof.Proof.Same

@[expose] public section

noncomputable section

namespace Cert.KernelIdeal.Loops

open Idealize.ShloMosaic Idealize.ShloMosaic.TcCoe Idealize.ShloMosaic.ValueIdx
open Idealize.SL Idealize.SL.Sem
open Cert.KernelIdeal.Gen Cert.KernelIdeal.Talk

variable {F : FTy → Type}

/-! ## Semaphore entries -/

/-- The barrier as the text reaches it is the barrier semaphore. -/
theorem barSem_eq : barSem = barS := rfl
/-- Entry `d` of the first sends' semaphores, by its number. -/
theorem entry0 : ∀ (d : ℕ) (hd : d < 16), entry cc0_scratch4 d hd = dmaIx 0 d := by
  have h : ∀ d : Fin 16, entry cc0_scratch4 d.val d.isLt = dmaIx 0 d.val := by decide +kernel
  exact fun d hd => h ⟨d, hd⟩
/-- Entry `d` of the first receives' semaphores, by its number. -/
theorem entry1 : ∀ (d : ℕ) (hd : d < 16), entry cc0_scratch5 d hd = dmaIx 1 d := by
  have h : ∀ d : Fin 16, entry cc0_scratch5 d.val d.isLt = dmaIx 1 d.val := by decide +kernel
  exact fun d hd => h ⟨d, hd⟩
/-- Entry `d` of the second sends' semaphores, by its number. -/
theorem entry2 : ∀ (d : ℕ) (hd : d < 16), entry cc0_scratch6 d hd = dmaIx 2 d := by
  have h : ∀ d : Fin 16, entry cc0_scratch6 d.val d.isLt = dmaIx 2 d.val := by decide +kernel
  exact fun d hd => h ⟨d, hd⟩
/-- Entry `d` of the second receives' semaphores, by its number. -/
theorem entry3 : ∀ (d : ℕ) (hd : d < 16), entry cc0_scratch7 d hd = dmaIx 3 d := by
  have h : ∀ d : Fin 16, entry cc0_scratch7 d.val d.isLt = dmaIx 3 d.val := by decide +kernel
  exact fun d hd => h ⟨d, hd⟩

/-! ## The printed row arithmetic -/

/-- The printed offset of first send `d` is where its target's rows begin. -/
theorem off1_eq (c : Dev nD) (d : ℕ) (hd : d < 16) : k0_off1 c (BitVec.ofNat 32 d) = ![16 * (tgt c d).val, 0] := by
  have h : ∀ (d : Fin 16) (c : Dev nD), k0_off1 c (BitVec.ofNat 32 d.val) = ![16 * (tgt c d.val).val, 0] := by decide +kernel
  exact h ⟨d, hd⟩ c
/-- The printed offset of the own rows' loads and stores is where the device's rows begin. -/
theorem off2_eq (c : Dev nD) : k0_off2 c = ![16 * c.val, 0] := k0_off2_eq c
/-- The printed offset of the second sends' target is where the device's rows begin. -/
theorem off3_eq (c : Dev nD) : k0_off3 c = ![16 * c.val, 0] := k0_off3_eq c

/-! ## Rectangles -/

/-- Sixteen rows of a 256-row buffer from an offset. -/
abbrev rowRect (off : Fin 2 → ℕ) (h : ∀ a, off a + S16x512.size a ≤ S256x512.size a) : Rect S256x512 := Rect.unit (s := S256x512) off S16x512.size h
/-- Slot `d` of the landing buffer. -/
abbrev slotRect (d : ℕ) (hd : d < 16) : Rect S16x16x512 := Rect.unit (s := S16x16x512) ![d, 0, 0] S1x16x512.size (slot_inb d hd)

/-- Sixteen rows from row `16 r` are row block `r`. -/
theorem rowRect_set (off : Fin 2 → ℕ) (h) (r : ℕ) (h0 : off = ![16 * r, 0]) : (rowRect off h).set = rowSet r := by
  subst h0
  ext i
  rw [Rect.mem_set_unit, mem_rowSet]
  have h1 : (i 1).val < 512 := (i 1).isLt
  constructor
  · intro hi; obtain ⟨ha, hb⟩ := hi 0
    have ha' : 16 * r ≤ (i 0).val := ha
    have hb' : (i 0).val < 16 * r + 16 := hb
    omega
  · intro hi a; fin_cases a
    · show 16 * r ≤ (i 0).val ∧ (i 0).val < 16 * r + 16; omega
    · show 0 ≤ (i 1).val ∧ (i 1).val < 0 + 512; omega
/-- The elements of slot `d`'s rectangle are slot `d`. -/
theorem slotRect_set (d : ℕ) (hd : d < 16) : (slotRect d hd).set = slotSet d := by
  ext i
  rw [Rect.mem_set_unit, mem_slotSet]
  have h1 : (i 1).val < 16 := (i 1).isLt
  have h2 : (i 2).val < 512 := (i 2).isLt
  constructor
  · intro hi; obtain ⟨ha, hb⟩ := hi 0
    have ha' : d ≤ (i 0).val := ha
    have hb' : (i 0).val < d + 1 := hb
    omega
  · intro hi a; fin_cases a
    · show d ≤ (i 0).val ∧ (i 0).val < d + 1; omega
    · show 0 ≤ (i 1).val ∧ (i 1).val < 0 + 16; omega
    · show 0 ≤ (i 2).val ∧ (i 2).val < 0 + 512; omega

/-- Where an element of row block `r` sits in the whole buffer. -/
theorem rowRect_emb (off : Fin 2 → ℕ) (h) (r : ℕ) (hr : r < 16) (h0 : off = ![16 * r, 0]) (a : Fin 16) (b : Fin 512) :
    (rowRect off h).emb (ix2 a b) = (ix2 ⟨16 * r + a.val, by have := a.isLt; omega⟩ b : S256x512.Idx) := by
  subst h0
  funext x; apply Fin.ext; fin_cases x
  · show 16 * r + 1 * a.val = 16 * r + a.val; omega
  · show 0 + 1 * b.val = b.val; omega
/-- Where an element of slot `d` sits in the landing buffer. -/
theorem slotRect_emb (d : ℕ) (hd : d < 16) (z : Fin 1) (a : Fin 16) (b : Fin 512) :
    (slotRect d hd).emb (ix3 z a b) = (ix3 ⟨d, hd⟩ a b : S16x16x512.Idx) := by
  funext x; apply Fin.ext; fin_cases x
  · show d + 1 * z.val = d; omega
  · show 0 + 1 * a.val = a.val; omega
  · show 0 + 1 * b.val = b.val; omega

/-! ## The views that travel -/

/-- First send `d` reads its target's rows. -/
theorem rowsM_set (c : Dev nD) (d : ℕ) (h1 : 1 ≤ d) (hd : d < 16) : (rowsM c d h1 hd).view.set = rowSet (tgt c d).val :=
  (View.set_slice_whole _ _).trans (rowRect_set _ _ _ (off1_eq c d hd))
/-- A second send writes the sender's rows of the result. -/
theorem ownM_set (c : Dev nD) : (ownM c).view.set = rowSet c.val :=
  (View.set_slice_whole _ _).trans (rowRect_set _ _ _ (off3_eq c))
/-- First send `d` writes slot `d`. -/
theorem slotM_set (d : ℕ) (hd : d < 16) : (slotM d hd).view.set = slotSet d :=
  (View.set_reshape _ _).trans ((View.set_slice_whole _ _).trans (slotRect_set d hd))
/-- A second send reads all the reduced rows. -/
theorem redM_set : redM.view.set = Finset.univ := View.set_whole _

/-- Where an element that first send `d` reads sits in the partial result. -/
theorem rowsM_emb (c : Dev nD) (d : ℕ) (h1 : 1 ≤ d) (hd : d < 16) (a : Fin 16) (b : Fin 512) :
    (rowsM c d h1 hd).view.emb (ix2 a b) = (ix2 ⟨16 * (tgt c d).val + a.val, by have := a.isLt; have := dev_lt (tgt c d); omega⟩ b : S256x512.Idx) :=
  rowRect_emb _ _ _ (dev_lt _) (off1_eq c d hd) a b
/-- Where an element that a second send writes sits in the result. -/
theorem ownM_emb (c : Dev nD) (a : Fin 16) (b : Fin 512) :
    (ownM c).view.emb (ix2 a b) = (ix2 ⟨16 * c.val + a.val, by have := a.isLt; have := dev_lt c; omega⟩ b : S256x512.Idx) :=
  rowRect_emb _ _ _ (dev_lt _) (off3_eq c) a b
/-- Where an element that first send `d` writes sits in the landing buffer. -/
theorem slotM_emb (d : ℕ) (hd : d < 16) (a : Fin 16) (b : Fin 512) : (slotM d hd).view.emb (ix2 a b) = (ix3 ⟨d, hd⟩ a b : S16x16x512.Idx) := by
  show (slotRect d hd).emb (Shape.reshapeEquiv _ (ix2 a b)) = _
  rw [reshapeEquiv_ix2_1ab]
  exact slotRect_emb d hd 0 a b

/-! ## What a landing makes -/

variable (P : Dev nD → Big F) (R : Dev nD → Small F)

/-- First send `d` of device `c` leaves in its target's slot `d` what the target's landing buffer is to hold there. -/
theorem land1 (c : Dev nD) (d : ℕ) (h1 : 1 ≤ d) (hd : d < 16) (fd : S16x16x512.Idx → Elt F .f32) :
    ∀ i ∈ slotSet d, (slotM d hd).view.write (Elt F) fd ((rowsM c d h1 hd).view.read (Elt F) (P c)) Finset.univ i = comF P (tgt c d) i := by
  intro i hi
  rw [mem_slotSet] at hi
  obtain ⟨a, b, rfl⟩ : ∃ a b, i = ix3 ⟨d, hd⟩ a b := ⟨i 1, i 2, by rw [eq_ix3 i]; congr 1; exact Fin.ext hi⟩
  rw [← slotM_emb d hd a b]
  refine (View.write_emb_of_mem _ _ (Finset.mem_univ _)).trans ?_
  rw [slotM_emb]
  show P c ((rowsM c d h1 hd).view.emb (ix2 a b)) = P (tgt (tgt c d) (16 - d)) _
  rw [rowsM_emb, tgt_back c d (by omega)]

/-- A second send of device `c` leaves its reduced rows in the result's rows of `c`. -/
theorem land2 (c : Dev nD) (fd : Big F) :
    ∀ i ∈ rowSet c.val, (ownM c).view.write (Elt F) fd (redM.view.read (Elt F) (R c)) Finset.univ i = outF R i := by
  intro i hi
  rw [mem_rowSet] at hi
  have hc := dev_lt c
  obtain ⟨a, b, hab⟩ : ∃ (a : Fin 16) (b : Fin 512), i = ix2 ⟨16 * c.val + a.val, by have := a.isLt; omega⟩ b :=
    ⟨⟨(i 0).val % 16, Nat.mod_lt _ (by decide)⟩, i 1, by
      rw [eq_ix2 i]; congr 1; apply Fin.ext; show (i 0).val = 16 * c.val + (i 0).val % 16; omega⟩
  have ha := a.isLt
  rw [hab, ← ownM_emb c a b]
  refine (View.write_emb_of_mem _ _ (Finset.mem_univ _)).trans ?_
  rw [ownM_emb]
  show R c (ix2 a b) = R _ _
  congr 1
  · congr 1; apply Fin.ext; show c.val = (16 * c.val + a.val) / 16; omega
  · congr 1; apply Fin.ext; show a.val = (16 * c.val + a.val) % 16; omega

/-! ## What a load reads -/

/-- Landing slot `d` as it is loaded; the own row block of the partial result. -/
def slotV (c : Dev nD) (d : ℕ) (hd : d < 16) : Vec F S1x16x512 .f32 := fun i => comF P c (ix3 ⟨d, hd⟩ (i 1) (i 2))
/-- The device's own rows of its partial result. -/
def ownV (c : Dev nD) : Vec F S16x512 .f32 := fun i => P c (ix2 ⟨16 * c.val + (i 0).val, by have := dev_lt c; have h : (i 0).val < 16 := (i 0).isLt; omega⟩ (i 1))

/-- What a load of slot `d` gives once the copy has landed. -/
theorem slot_load (c : Dev nD) (d : ℕ) (hd : d < 16) : (comM.access (slotRect d hd)).read (Elt F) (comF P c) = slotV P c d hd := by
  funext i
  rw [eq_ix3 i]
  exact congrArg (comF P c) (slotRect_emb d hd (i 0) (i 1) (i 2))
/-- What the load of the own rows of the partial result gives. -/
theorem own_load (c : Dev nD) : (partM.access (rowRect (k0_off2 c) (k0_off2_inb c))).read (Elt F) (P c) = ownV P c := by
  funext i
  rw [eq_ix2 i]
  exact congrArg (P c) (rowRect_emb _ _ _ (dev_lt c) (off2_eq c) (i 0) (i 1))
/-- Storing the reduced rows into the own rows of the result. -/
theorem own_store (c : Dev nD) (fd : Big F) :
    ∀ i ∈ rowSet c.val, (outM.access (rowRect (k0_off2 c) (k0_off2_inb c))).write (Elt F) fd (R c) Finset.univ i = outF R i :=
  fun i hi => land2 R c fd i hi

variable [FloatOps F]

/-- The sum the reduction makes, from slot `d` on. -/
def accAll (c : Dev nD) : (n d : ℕ) → d + n = 16 → FVec F S16x512 .f32 → FVec F S16x512 .f32
  | 0, _, _, acc => acc
  | n + 1, d, h, acc => accAll c n (d + 1) (by omega) (accum acc (slotV P c d (by omega)))
/-- The reduced rows of device `c`. -/
def redF (c : Dev nD) : Small F := shapeCast S16x512 (accAll P c 15 1 rfl (ownV P c)) shapeCasts_S16x512_S16x512

end Cert.KernelIdeal.Loops
-- ==== Proof.Steps.lean ====
/- The phases of one device's run, each by induction on the peers left. -/
module

public import proofs.«01_k».proof.Proof.Geometry

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Talk

variable {F : FTy → Type} [FloatOps F]

local notation "𝕄" => MT nD τ sig Unit (Elt F) ℕ UU ℕ

/-- No loop needs a variant. -/
abbrev 𝒱₀ : Variants := Variants.none

/-- The triple of a kernel text on device `c`. -/
abbrev WP (c : Dev nD) (p : Pg F) (Q : PUnit → sProp 𝕄) : sProp 𝕄 :=
  wp frame (wpE (defs₀ (F := F)) 𝒱₀ (c : Thread nD τ) none) Set.univ p Q

/-- Device `c` owes `O`, whatever it has waited for. -/
abbrev owing (c : Dev nD) (O : CellTallies nD τ sig Unit) : sProp 𝕄 := iprop(∃ W, owes (c : Thread nD τ) O W)

variable (P : Dev nD → Big F) (R : Dev nD → Small F) (K : GSem nD τ sig → ℕ)

/-! ## The invariants -/

/-- Every barrier and every copy cell in use keeps the conversation's invariant. -/
def recs : sProp 𝕄 :=
  iprop(bigSep (Finset.univ : Finset (Dev nD)) (fun c => cellInv ER (talk P R) (K (barCell c)) (barCell c))
    ∗ bigSep (Finset.univ : Finset (Fin 4 × Fin 15 × Dev nD)) (fun x => cellInv ER (talk P R) (K (cpCell x.1.val (x.2.1.val + 1) x.2.2)) (cpCell x.1.val (x.2.1.val + 1) x.2.2)))

/-- The cells' invariants may be used again and again. -/
instance recs_persistent : BI.Persistent (recs P R K) := by unfold recs; infer_instance

/-- Among them is every barrier's, -/
theorem recs_bar (c : Dev nD) : recs P R K ⊢ cellInv ER (talk P R) (K (barCell c)) (barCell c) := by
  unfold recs
  iintro ⟨#H, -⟩
  have h : (bigSep (Finset.univ : Finset (Dev nD)) (fun c => cellInv ER (talk P R) (K (barCell c)) (barCell c)) : sProp 𝕄)
    ⊢ cellInv ER (talk P R) (K (barCell c)) (barCell c) := bigSep_elim (Finset.mem_univ c)
  iapply h; iexact H
/-- and every copy cell's. -/
theorem recs_cp (a d : ℕ) (ha : a < 4) (h1 : 1 ≤ d) (hd : d < 16) (c : Dev nD) :
    recs P R K ⊢ cellInv ER (talk P R) (K (cpCell a d c)) (cpCell a d c) := by
  obtain ⟨e, rfl⟩ : ∃ e, d = e + 1 := ⟨d - 1, by omega⟩
  unfold recs
  iintro ⟨-, #H⟩
  have h : (bigSep (Finset.univ : Finset (Fin 4 × Fin 15 × Dev nD)) (fun x => cellInv ER (talk P R) (K (cpCell x.1.val (x.2.1.val + 1) x.2.2)) (cpCell x.1.val (x.2.1.val + 1) x.2.2)) : sProp 𝕄)
    ⊢ cellInv ER (talk P R) (K (cpCell a (e + 1) c)) (cpCell a (e + 1) c) :=
    bigSep_elim (Finset.mem_univ ((⟨a, ha⟩, ⟨e, by omega⟩, c) : Fin 4 × Fin 15 × Dev nD))
  iapply h; iexact H

/-- The lowest of what is left. -/
theorem peel (d : ℕ) (hd : d < 16) (Φ : ℕ → sProp 𝕄) : bigSep (Finset.Ico d 16) Φ = iprop(Φ d ∗ bigSep (Finset.Ico (d + 1) 16) Φ) := by
  have h : Finset.Ico d 16 = insert d (Finset.Ico (d + 1) 16) := by ext x; simp only [Finset.mem_Ico, Finset.mem_insert]; omega
  rw [h, BI.bigSep_insert (by simp)]; rfl
/-- After the last peer nothing is left. -/
theorem peel_done (Φ : ℕ → sProp 𝕄) : bigSep (Finset.Ico 16 16) Φ = (iprop(emp) : sProp 𝕄) := rfl

/-- One induction for every phase: if each step spends `In d`, makes `Out d` and moves what is owed from `O d` to `O (d+1)`,
    the phase spends all the `In`, makes all the `Out`, and moves what is owed to `O 16`. -/
theorem wp_phase (c : Dev nD) (step : (d : ℕ) → 1 ≤ d → d < 16 → Pg F → Pg F) (In Out : ℕ → sProp 𝕄) (O : ℕ → CellTallies nD τ sig Unit) (Q : PUnit → sProp 𝕄)
    (hstep : ∀ (d : ℕ) (h1 : 1 ≤ d) (hd : d < 16) (k : Pg F),
      iprop(recs P R K ∗ levAts L lv ∗ In d ∗ owing c (O d) ∗ (Out d -∗ owing c (O (d + 1)) -∗ WP c k Q)) ⊢ WP c (step d h1 hd k) Q) (k : Pg F) :
    ∀ (n d : ℕ) (h : d + n = 16) (h1 : 1 ≤ d),
    iprop(recs P R K ∗ levAts L lv ∗ bigSep (Finset.Ico d 16) In ∗ owing c (O d) ∗ (bigSep (Finset.Ico d 16) Out -∗ owing c (O 16) -∗ WP c k Q))
      ⊢ WP c (phase step n d h h1 k) Q
  | 0, d, h, _ => by
    obtain rfl : d = 16 := by omega
    rw [peel_done, peel_done]
    iintro ⟨-, -, -, HO, Hk⟩
    iapply Hk $$ []; · iempintro
    iexact HO
  | n + 1, d, h, h1 => by
    have hd : d < 16 := by omega
    have e : phase step (n + 1) d h h1 k = step d h1 hd (phase step n (d + 1) (by omega) (by omega) k) := rfl
    rw [peel d hd, peel d hd, e]
    iintro ⟨#Hrec, #Hlev, ⟨Hi, Hs⟩, HO, Hk⟩
    iapply (hstep d h1 hd)
    isplitr; · iexact Hrec
    isplitr; · iexact Hlev
    isplitl [Hi]; · iexact Hi
    isplitl [HO]; · iexact HO
    iintro Ho HO
    iapply (wp_phase c step In Out O Q hstep k n (d + 1) _ _)
    isplitr; · iexact Hrec
    isplitr; · iexact Hlev
    isplitl [Hs]; · iexact Hs
    isplitl [HO]; · iexact HO
    iintro Hos
    iapply Hk
    isplitl [Ho]; · iexact Ho
    iexact Hos

/-! ## Signals -/

/-- What signal `d` of device `c` spends. -/
def sigRes (c : Dev nD) (d : ℕ) : sProp 𝕄 :=
  iprop(dutyTok ER (barCell (tgt c d)) 0 (16 - d) ∗ reached ER (barCell (tgt c d)) 0 ∗ barPay (tgt c d) (16 - d))

/-- The signals: they spend what every peer is to get and pay what is owed to the barriers. -/
theorem wp_signals (c : Dev nD) (X : CellTallies nD τ sig Unit) (k : Pg F) (Q : PUnit → sProp 𝕄) :
    iprop(recs P R K ∗ levAts L lv ∗ bigSep (Finset.Ico 1 16) (sigRes c) ∗ owing c (X + oweB c 1) ∗ (owing c X -∗ WP c k Q))
      ⊢ WP c (signals c k) Q := by
  refine BIBase.Entails.trans ?_ (wp_phase P R K c _ (sigRes c) (fun _ => iprop(emp)) (fun d => X + oweB c d) Q (fun d h1 hd k => ?_) k 15 1 rfl le_rfl)
  · rw [oweB_done, add_zero]
    iintro ⟨#Hrec, #Hlev, Hs, HO, Hk⟩
    isplitr; · iexact Hrec
    isplitr; · iexact Hlev
    isplitl [Hs]; · iexact Hs
    isplitl [HO]; · iexact HO
    iintro -
    iexact Hk
  · rw [sigDev_eq ⟨d, hd⟩ c]
    have e : signalTo (tgt c d) k = .op (.semSignal ((tgt c d : Dev nD) : Thread nD τ) barS 1) fun _ => k := rfl
    rw [e]
    unfold sigRes
    iintro ⟨#Hrec, #Hlev, ⟨Ht, #Hr, Hp⟩, ⟨%W, HO⟩, Hk⟩
    iapply (Rounds.wp_signal 𝒱₀ ER (talk P R) (c : Thread nD τ) none (dst := (tgt c d : Thread nD τ)) (sem := barS) (r := 0) (d := 16 - d) (κ := K (barCell (tgt c d)))
      (by rw [duties_bar]; exact Finset.mem_Ico.mpr ⟨by omega, by omega⟩) (amount_bar P R (tgt c d) (16 - d)) () (O₀ := X + oweB c d) (X + oweB c (d + 1)) (by rw [oweB_step c d hd, add_assoc]))
      $$ [HO Ht Hp]
    · isplitr; · iapply (recs_bar P R K (tgt c d)); iexact Hrec
      isplitl [HO]; · iexact HO
      isplitl [Ht]; · iexact Ht
      isplitl [Hp]; · rw [payload_bar]; iexact Hp
      iexact Hr
    iintro HO
    iapply Hk $$ []; · iempintro
    iexists W; iexact HO

/-! ## One wait -/

/-- A wait on an own copy cell: the credit is spent, the payload comes, the cell is at round 1. -/
theorem wp_wait_cp (c : Dev nD) (a d : ℕ) (ha : a < 4) (h1 : 1 ≤ d) (hd : d < 16) (O : CellTallies nD τ sig Unit)
    (hM : (levAts L lv : sProp 𝕄) ⊢ MayWait (c : Thread nD τ) (.dma (dmaIx a d)) () O)
    {sp sp' : Space} {s s' : Shape} {e e' : EltTy} {src : Memref sig .tc sp' s' e'} {dst : Memref sig .tc sp s e}
    {hsrc : src.view.WordExact} {hdst : dst.view.WordExact} (hN : dst.view.dmaCredit = N) (k : PUnit → Pg F) (Q : PUnit → sProp 𝕄) :
    iprop(recs P R K ∗ levAts L lv ∗ (cred (tallyAt (cpCell a d c) () N) ∗ atPos ER (cpCell a d c) 0 ∅ 0) ∗ owing c O
        ∗ ((atPos ER (cpCell a d c) (0 + 1) ∅ 0 ∗ cpPay P R a d c) -∗ owing c O -∗ WP c (k ⟨⟩) Q))
      ⊢ WP c (.op (.waitDma2 (dmaIx a d) src dst hsrc hdst) k) Q := by
  iintro ⟨#Hrec, #Hlev, ⟨Hc, Hat⟩, ⟨%W, HO⟩, Hk⟩
  iapply (Rounds.wp_wait_rest_token 𝒱₀ ER (talk P R) (c : Thread nD τ) none (κ := K (cpCell a d c)) (sm := .dma (dmaIx a d)) (k' := N)
      (fun Kk => (wpE_waitDma2_eq 𝒱₀ (c : Thread nD τ) none Set.univ Kk).trans (by rw [hN])) (Set.mem_univ _) () (O := O) (W := W) (R := 0) (m := 0) (T := ∅)
      ((Nat.zero_add _).trans (expect_cp P R c a d ha hd h1).symm)) $$ [Hc HO Hat]
  · isplitr; · iapply (recs_cp P R K a d ha h1 hd c); iexact Hrec
    isplitl [Hc]; · iexact Hc
    isplitl [HO]; · iexact HO
    isplitr; · iapply hM; iexact Hlev
    iexact Hat
  iintro ⟨HO, Hat, -, Hp⟩
  ihave Hp := (Entails.of_eq (rest_cp P R c a d ha hd h1)) $$ Hp
  iapply Hk $$ [Hat Hp]
  · isplitl [Hat]; · iexact Hat
    iexact Hp
  iexists _; iexact HO

/-- What a wait on copy cell `d` of array `a` spends, and what it leaves. -/
def waitRes (a : ℕ) (c : Dev nD) (d : ℕ) : sProp 𝕄 := iprop(cred (tallyAt (cpCell a d c) () N) ∗ atPos ER (cpCell a d c) 0 ∅ 0)
/-- What a wait on a copy cell gives: the position one round on and the payload. -/
def waitOut (a : ℕ) (c : Dev nD) (d : ℕ) : sProp 𝕄 := iprop(atPos ER (cpCell a d c) (0 + 1) ∅ 0 ∗ cpPay P R a d c)

/-- Who owes nothing may wait. -/
theorem mayWait_none (c : Dev nD) (sm : SemLoc sig) : (levAts L lv : sProp 𝕄) ⊢ MayWait (c : Thread nD τ) sm () 0 := by
  rw [MayWait_zero]; iintro -; iempintro

/-! ## The first sends -/

/-- What first send `d` of device `c` spends. -/
def s1Res (c : Dev nD) (d : ℕ) : sProp 𝕄 :=
  iprop(dutyTok ER (cpCell 0 d c) 0 0 ∗ reached ER (cpCell 0 d c) 0 ∗ dutyTok ER (cpCell 1 d (tgt c d)) 0 0 ∗ reached ER (cpCell 1 d (tgt c d)) 0
    ∗ pts c partB (rowSet (tgt c d).val) (P c) ∗ (∃ f, pts (tgt c d) comB (slotSet d) f))

/-- The first sends: they pay what is owed to the first receives, and give the credits to wait for the sends. -/
theorem wp_sends1 (c : Dev nD) (X : CellTallies nD τ sig Unit) (k : Pg F) (Q : PUnit → sProp 𝕄) :
    iprop(recs P R K ∗ levAts L lv ∗ bigSep (Finset.Ico 1 16) (s1Res P c) ∗ owing c (X + oweR 1 c 1)
        ∗ (bigSep (Finset.Ico 1 16) (fun d => cred (tallyAt (cpCell 0 d c) () N)) -∗ owing c X -∗ WP c k Q))
      ⊢ WP c (sends1 c k) Q := by
  refine BIBase.Entails.trans ?_ (wp_phase P R K c _ (s1Res P c) (fun d => cred (tallyAt (cpCell 0 d c) () N)) (fun d => X + oweR 1 c d) Q (fun d h1 hd k => ?_) k 15 1 rfl le_rfl)
  · rw [oweR_done, add_zero]
  · rw [oneDev_eq ⟨d, hd⟩ c, entry0 d hd, entry1 d hd]
    unfold sendOne
    unfold s1Res
    iintro ⟨#Hrec, #Hlev, ⟨Ht, #Hr, Ht', #Hr', Hsrc, ⟨%fd, Hdst⟩⟩, ⟨%W, HO⟩, Hk⟩
    iapply (Rounds.wp_send_pointsTo 𝒱₀ ER (talk P R) (c : Thread nD τ) none (c' := (tgt c d : Thread nD τ)) (src := rowsM c d h1 hd) (dst := slotM d hd)
      (sS := .dma (dmaIx 0 d)) (sem := .dma (dmaIx 1 d)) (q := fullShare) (fs := P c) (κ₁ := K (cpCell 0 d c)) (κ₂ := K (cpCell 1 d (tgt c d)))
      (r₁ := 0) (r₂ := 0) (d₁ := 0) (d₂ := 0) (fd := fd)
      (by rw [duties_cp P R c 0 d (by decide) hd h1]; exact Finset.mem_singleton_self _) (by rw [duties_cp P R (tgt c d) 1 d (by decide) hd h1]; exact Finset.mem_singleton_self _)
      () () N rfl (amount_cp P R c 0 d 0) (amount_cp P R (tgt c d) 1 d 0) (O₀ := X + oweR 1 c d) (X + oweR 1 c (d + 1)) (by rw [oweR_step 1 c d hd, add_assoc]) (W := W)
      (by rw [payload_cp P R c 0 d 0 (by decide) hd, rowsM_set]; exact BI.Entails.refl _)
      (by rw [payload_cp P R (tgt c d) 1 d 0 (by decide) hd, slotM_set]; exact Entails.of_eq (pointsTo_congr (land1 P c d h1 hd fd)))) $$ [Ht Ht' Hsrc Hdst HO]
    · isplitr; · iapply (recs_cp P R K 0 d (by decide) h1 hd c); iexact Hrec
      isplitr; · iapply (recs_cp P R K 1 d (by decide) h1 hd (tgt c d)); iexact Hrec
      isplitl [Hsrc]; · rw [rowsM_set]; iexact Hsrc
      isplitl [Hdst]; · rw [slotM_set]; iexact Hdst
      isplitl [HO]; · iexact HO
      isplitl [Ht]; · iexact Ht
      isplitr; · iexact Hr
      isplitl [Ht']; · iexact Ht'
      iexact Hr'
    iintro ⟨Hc, HO⟩
    iapply Hk $$ [Hc]; · iexact Hc
    iexists W; iexact HO

/-! ## The first receives -/

/-- The first receives from `d` on: each waits for its slot, loads it and adds it. -/
theorem wp_recvs (c : Dev nD) (k : FVec F S16x512 .f32 → Pg F) (Q : PUnit → sProp 𝕄) : ∀ (n d : ℕ) (h : d + n = 16) (h1 : 1 ≤ d) (acc : FVec F S16x512 .f32),
    iprop(recs P R K ∗ levAts L lv ∗ bigSep (Finset.Ico d 16) (waitRes 1 c) ∗ owing c (oweR 3 c 1)
        ∗ (bigSep (Finset.Ico d 16) (waitOut P R 1 c) -∗ owing c (oweR 3 c 1) -∗ WP c (k (accAll P c n d h acc)) Q))
      ⊢ WP c (recvs c n d h h1 acc k) Q
  | 0, d, h, _, acc => by
    obtain rfl : d = 16 := by omega
    rw [peel_done, peel_done]
    iintro ⟨-, -, -, HO, Hk⟩
    iapply Hk $$ []; · iempintro
    iexact HO
  | n + 1, d, h, h1, acc => by
    have hd : d < 16 := by omega
    have e : recvs c (n + 1) d h h1 acc k = .op (.waitDma2 (dmaIx 1 d) (rowsM c d h1 hd) (slotM d hd) (View.wordExact_bits rfl) ((View.wordExact_bits rfl).reshape _ _)) fun _ =>
        .op (.load comM (slotRect d hd).toLoadRect (View.loadsAt_vmem h_S1x16x512)) fun v => recvs c n (d + 1) (by omega) (by omega) (accum acc v) k := by
      rw [← entry1 d hd]; rfl
    rw [peel d hd, peel d hd, e]
    iintro ⟨#Hrec, #Hlev, ⟨Hw, Hs⟩, HO, Hk⟩
    iapply (wp_wait_cp P R K c 1 d (by decide) h1 hd (oweR 3 c 1) (mayWait_cp1 c d hd) (by rfl))
    isplitr; · iexact Hrec
    isplitr; · iexact Hlev
    isplitl [Hw]; · unfold waitRes; iexact Hw
    isplitl [HO]; · iexact HO
    iintro ⟨Hat, Hp⟩ HO
    iapply (wp_load_rect 𝒱₀ (c : Thread nD τ) none Set.univ (m := comM) (r := slotRect d hd) (S := slotSet d) (q := fullShare) (f := comF P c)
      (by rw [← slotRect_set d hd]; exact (View.set_slice_whole _ _).le)) $$ [Hp]
    · unfold cpPay; iexact Hp
    iintro Hp
    rw [slot_load]
    iapply (wp_recvs c k Q n (d + 1) _ _)
    isplitr; · iexact Hrec
    isplitr; · iexact Hlev
    isplitl [Hs]; · iexact Hs
    isplitl [HO]; · iexact HO
    iintro Hcs
    iapply Hk
    isplitl [Hat Hp]
    · unfold waitOut
      isplitl [Hat]; · iexact Hat
      unfold cpPay; iexact Hp
    iexact Hcs

/-! ## The second sends -/

/-- What second send `d` of device `c` spends. -/
def s2Res (c : Dev nD) (d : ℕ) : sProp 𝕄 :=
  iprop(dutyTok ER (cpCell 2 d c) 0 0 ∗ reached ER (cpCell 2 d c) 0 ∗ dutyTok ER (cpCell 3 d (tgt c d)) 0 0 ∗ reached ER (cpCell 3 d (tgt c d)) 0
    ∗ ((c : Thread nD τ).loc redB ↦[Finset.univ]{(shr d).left} (R c : Buf (Elt F) ((c : Thread nD τ).loc redB))) ∗ (∃ f, pts (tgt c d) outB (rowSet c.val) f))

/-- The second sends: they pay what is owed to the second receives, and give the credits to wait for the sends. -/
theorem wp_sends2 (c : Dev nD) (X : CellTallies nD τ sig Unit) (k : Pg F) (Q : PUnit → sProp 𝕄) :
    iprop(recs P R K ∗ levAts L lv ∗ bigSep (Finset.Ico 1 16) (s2Res R c) ∗ owing c (X + oweR 3 c 1)
        ∗ (bigSep (Finset.Ico 1 16) (fun d => cred (tallyAt (cpCell 2 d c) () N)) -∗ owing c X -∗ WP c k Q))
      ⊢ WP c (sends2 c k) Q := by
  refine BIBase.Entails.trans ?_ (wp_phase P R K c _ (s2Res R c) (fun d => cred (tallyAt (cpCell 2 d c) () N)) (fun d => X + oweR 3 c d) Q (fun d h1 hd k => ?_) k 15 1 rfl le_rfl)
  · rw [oweR_done, add_zero]
  · rw [twoDev_eq ⟨d, hd⟩ c, entry2 d hd, entry3 d hd]
    unfold sendTwo
    unfold s2Res
    iintro ⟨#Hrec, #Hlev, ⟨Ht, #Hr, Ht', #Hr', Hsrc, ⟨%fd, Hdst⟩⟩, ⟨%W, HO⟩, Hk⟩
    iapply (Rounds.wp_send_pointsTo 𝒱₀ ER (talk P R) (c : Thread nD τ) none (c' := (tgt c d : Thread nD τ)) (src := redM) (dst := ownM c)
      (sS := .dma (dmaIx 2 d)) (sem := .dma (dmaIx 3 d)) (q := (shr d).left) (fs := R c) (κ₁ := K (cpCell 2 d c)) (κ₂ := K (cpCell 3 d (tgt c d)))
      (r₁ := 0) (r₂ := 0) (d₁ := 0) (d₂ := 0) (fd := fd)
      (by rw [duties_cp P R c 2 d (by decide) hd h1]; exact Finset.mem_singleton_self _) (by rw [duties_cp P R (tgt c d) 3 d (by decide) hd h1]; exact Finset.mem_singleton_self _)
      () () N rfl (amount_cp P R c 2 d 0) (amount_cp P R (tgt c d) 3 d 0) (O₀ := X + oweR 3 c d) (X + oweR 3 c (d + 1)) (by rw [oweR_step 3 c d hd, add_assoc]) (W := W)
      (by rw [payload_cp P R c 2 d 0 (by decide) hd, redM_set]; exact BI.Entails.refl _)
      (by rw [payload_cp P R (tgt c d) 3 d 0 (by decide) hd, ownM_set]; unfold cpPay; rw [tgt_back c d (by omega)]; exact Entails.of_eq (pointsTo_congr (land2 R c fd)))) $$ [Ht Ht' Hsrc Hdst HO]
    · isplitr; · iapply (recs_cp P R K 2 d (by decide) h1 hd c); iexact Hrec
      isplitr; · iapply (recs_cp P R K 3 d (by decide) h1 hd (tgt c d)); iexact Hrec
      isplitl [Hsrc]; · rw [redM_set]; iexact Hsrc
      isplitl [Hdst]; · rw [ownM_set]; iexact Hdst
      isplitl [HO]; · iexact HO
      isplitl [Ht]; · iexact Ht
      isplitr; · iexact Hr
      isplitl [Ht']; · iexact Ht'
      iexact Hr'
    iintro ⟨Hc, HO⟩
    iapply Hk $$ [Hc]; · iexact Hc
    iexists W; iexact HO

/-! ## The last waits -/

/-- A phase of waits owing nothing, given that its steps are waits on array `a`'s cells. -/
theorem wp_waits (c : Dev nD) (a : ℕ) (step : (d : ℕ) → 1 ≤ d → d < 16 → Pg F → Pg F) (k : Pg F) (Q : PUnit → sProp 𝕄)
    (hstep : ∀ (d : ℕ) (h1 : 1 ≤ d) (hd : d < 16) (k : Pg F),
      iprop(recs P R K ∗ levAts L lv ∗ (cred (tallyAt (cpCell a d c) () N) ∗ atPos ER (cpCell a d c) 0 ∅ 0) ∗ owing c 0
        ∗ ((atPos ER (cpCell a d c) (0 + 1) ∅ 0 ∗ cpPay P R a d c) -∗ owing c 0 -∗ WP c k Q)) ⊢ WP c (step d h1 hd k) Q) :
    iprop(recs P R K ∗ levAts L lv ∗ bigSep (Finset.Ico 1 16) (waitRes a c) ∗ owing c 0
        ∗ (bigSep (Finset.Ico 1 16) (waitOut P R a c) -∗ owing c 0 -∗ WP c k Q))
      ⊢ WP c (phase step 15 1 rfl le_rfl k) Q :=
  wp_phase P R K c step (waitRes a c) (waitOut P R a c) (fun _ => 0) Q (fun d h1 hd k => by unfold waitRes waitOut; exact hstep d h1 hd k) k 15 1 rfl le_rfl

/-- The waits for the second receives give every peer's rows of the result. -/
theorem wp_waitsR (c : Dev nD) (k : Pg F) (Q : PUnit → sProp 𝕄) :
    iprop(recs P R K ∗ levAts L lv ∗ bigSep (Finset.Ico 1 16) (waitRes 3 c) ∗ owing c 0
        ∗ (bigSep (Finset.Ico 1 16) (waitOut P R 3 c) -∗ owing c 0 -∗ WP c k Q)) ⊢ WP c (waitsR c k) Q :=
  wp_waits P R K c 3 _ k Q fun d h1 hd k => by
    rw [entry3 d hd]; unfold waitR; exact wp_wait_cp P R K c 3 d (by decide) h1 hd 0 (mayWait_none c _) (by rfl) (fun _ => k) Q
/-- The waits for the first sends give the rows of the partial result back. -/
theorem wp_waitsS (c : Dev nD) (k : Pg F) (Q : PUnit → sProp 𝕄) :
    iprop(recs P R K ∗ levAts L lv ∗ bigSep (Finset.Ico 1 16) (waitRes 0 c) ∗ owing c 0
        ∗ (bigSep (Finset.Ico 1 16) (waitOut P R 0 c) -∗ owing c 0 -∗ WP c k Q)) ⊢ WP c (waitsS c k) Q :=
  wp_waits P R K c 0 _ k Q fun d h1 hd k => by
    rw [entry0 d hd]; unfold waitS; exact wp_wait_cp P R K c 0 d (by decide) h1 hd 0 (mayWait_none c _) (by rfl) (fun _ => k) Q
/-- The waits for the second sends give the shares of the reduced rows back. -/
theorem wp_waitsT (c : Dev nD) (k : Pg F) (Q : PUnit → sProp 𝕄) :
    iprop(recs P R K ∗ levAts L lv ∗ bigSep (Finset.Ico 1 16) (waitRes 2 c) ∗ owing c 0
        ∗ (bigSep (Finset.Ico 1 16) (waitOut P R 2 c) -∗ owing c 0 -∗ WP c k Q)) ⊢ WP c (waitsT c k) Q :=
  wp_waits P R K c 2 _ k Q fun d h1 hd k => by
    rw [entry2 d hd]; unfold waitT; exact wp_wait_cp P R K c 2 d (by decide) h1 hd 0 (mayWait_none c _) (by rfl) (fun _ => k) Q

end Cert.KernelIdeal.Loops
-- ==== Proof.Heads.lean ====
/- The attention phase of one device: head by head into the attention buffer. -/
module

public import proofs.«01_k».proof.Proof.Steps

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Talk

variable {F : FTy → Type} [FloatOps F]

local notation "𝕄" => MT nD τ sig Unit (Elt F) ℕ UU ℕ

/-- The buffer of `x`. -/
abbrev xB : Ref sig .tc := cc0_stg0_0
/-- The buffer of the query weights. -/
abbrev qB : Ref sig .tc := cc0_stg1_0
/-- The buffer of the output weights. -/
abbrev oB : Ref sig .tc := cc0_stg2_0
/-- The buffer of the keys. -/
abbrev kB : Ref sig .tc := cc0_stg3_0
/-- The buffer of the values. -/
abbrev vB : Ref sig .tc := cc0_stg4_0

/-- Contents of a weight block and of the keys or values of a device's sixteen heads. -/
abbrev Mat (F : FTy → Type) : Type := S512x512.Idx → Elt F .f32
/-- Contents of the keys or the values of a device's sixteen heads. -/
abbrev Kv (F : FTy → Type) : Type := S16x128x64.Idx → Elt F .f32

/-- The offset zero on two axes. -/
theorem zero2 : (![0, 0] : Fin 2 → ℕ) = fun _ => 0 := by funext a; fin_cases a <;> rfl

/-! ## Where the heads sit -/

/-- The head an element of the attention buffer belongs to. -/
def headOf (x : S256x512.Idx) : ℕ := 8 * ((x 0).val / 128) + (x 1).val / 64
/-- An element of the attention belongs to one of sixteen heads. -/
theorem headOf_lt (x : S256x512.Idx) : headOf x < 16 := by
  have h0 : (x 0).val < 256 := (x 0).isLt
  have h1 : (x 1).val < 512 := (x 1).isLt
  unfold headOf; omega

/-- Head `i`'s part of the attention. -/
abbrev headRect (i : ℕ) (hi : i < 16) : Rect S256x512 := Rect.unit (s := S256x512) (hOff i) S128x64.size (head_inb i hi)
/-- Head `i`'s keys or values. -/
abbrev kvRect (i : ℕ) (hi : i < 16) : Rect S16x128x64 := Rect.unit (s := S16x128x64) ![i, 0, 0] S1x128x64.size (kv_inb i hi)

/-- Where an element of head `i` sits in the attention. -/
theorem headRect_emb (i : ℕ) (hi : i < 16) (a : Fin 128) (b : Fin 64) :
    (headRect i hi).emb (ix2 a b) = (ix2 ⟨128 * (i / 8) + a.val, by have := a.isLt; omega⟩ ⟨64 * (i % 8) + b.val, by have := b.isLt; omega⟩ : S256x512.Idx) := by
  funext x; apply Fin.ext; fin_cases x
  · show 128 * (i / 8) + 1 * a.val = 128 * (i / 8) + a.val; omega
  · show 64 * (i % 8) + 1 * b.val = 64 * (i % 8) + b.val; omega
/-- Where an element of head `i`'s keys or values sits. -/
theorem kvRect_emb (i : ℕ) (hi : i < 16) (z : Fin 1) (a : Fin 128) (b : Fin 64) :
    (kvRect i hi).emb (ix3 z a b) = (ix3 ⟨i, hi⟩ a b : S16x128x64.Idx) := by
  funext x; apply Fin.ext; fin_cases x
  · show i + 1 * z.val = i; omega
  · show 0 + 1 * a.val = a.val; omega
  · show 0 + 1 * b.val = b.val; omega
/-- Head `i`'s part holds the elements that belong to head `i`. -/
theorem headRect_set (i : ℕ) (hi : i < 16) (x : S256x512.Idx) : x ∈ (headRect i hi).set ↔ headOf x = i := by
  rw [Rect.mem_set_unit]
  have h0 : (x 0).val < 256 := (x 0).isLt
  have h1 : (x 1).val < 512 := (x 1).isLt
  unfold headOf
  constructor
  · intro h
    obtain ⟨ha, hb⟩ := h 0
    obtain ⟨hc, hd⟩ := h 1
    have ha' : 128 * (i / 8) ≤ (x 0).val := ha
    have hb' : (x 0).val < 128 * (i / 8) + 128 := hb
    have hc' : 64 * (i % 8) ≤ (x 1).val := hc
    have hd' : (x 1).val < 64 * (i % 8) + 64 := hd
    omega
  · intro h a; fin_cases a
    · show 128 * (i / 8) ≤ (x 0).val ∧ (x 0).val < 128 * (i / 8) + 128; omega
    · show 64 * (i % 8) ≤ (x 1).val ∧ (x 1).val < 64 * (i % 8) + 64; omega

/-- One head's keys or values as they are loaded. -/
def kvAt (f : Kv F) (i : ℕ) (hi : i < 16) : Vec F S1x128x64 .f32 := fun j => f (ix3 ⟨i, hi⟩ (j 1) (j 2))
/-- What a load of head `i`'s keys or values gives. -/
theorem kv_load (b : Memref sig .tc .vmem S16x128x64 .f32) (f : b.view.ty.Contents (Elt F)) (i : ℕ) (hi : i < 16) :
    (b.access (kvRect i hi)).read (Elt F) f = kvAt (b.view.read (Elt F) f) i hi := by
  funext j
  rw [eq_ix3 j]
  exact congrArg (b.view.read (Elt F) f) (kvRect_emb i hi (j 0) (j 1) (j 2))

/-- The attention buffer once every head is done. -/
def attnF (q : FVec F S256x512 .f32) (kv vv : Kv F) : Big F := fun x =>
  head q (headOf x) (headOf_lt x) (kvAt kv (headOf x) (headOf_lt x)) (kvAt vv (headOf x) (headOf_lt x))
    (ix2 ⟨(x 0).val % 128, Nat.mod_lt _ (by decide)⟩ ⟨(x 1).val % 64, Nat.mod_lt _ (by decide)⟩)

/-- The attention at an element of head `i` is that head's value. -/
theorem attnF_at (q : FVec F S256x512 .f32) (kv vv : Kv F) (i : ℕ) (hi : i < 16) (a : Fin 128) (b : Fin 64) (x : S256x512.Idx)
    (hx : x = (headRect i hi).emb (ix2 a b)) : attnF q kv vv x = head q i hi (kvAt kv i hi) (kvAt vv i hi) (ix2 a b) := by
  have ha := a.isLt
  have hb := b.isLt
  rw [headRect_emb] at hx
  have h0 : (x 0).val = 128 * (i / 8) + a.val := by rw [hx]
  have h1 : (x 1).val = 64 * (i % 8) + b.val := by rw [hx]
  have hh : headOf x = i := by unfold headOf; omega
  have e0 : (⟨(x 0).val % 128, Nat.mod_lt _ (by decide)⟩ : Fin 128) = a := Fin.ext (by show (x 0).val % 128 = a.val; omega)
  have e1 : (⟨(x 1).val % 64, Nat.mod_lt _ (by decide)⟩ : Fin 64) = b := Fin.ext (by show (x 1).val % 64 = b.val; omega)
  unfold attnF
  rw [e0, e1]
  subst hh; rfl

/-- Storing head `i` extends the finished heads by it. -/
theorem head_store (q : FVec F S256x512 .f32) (kv vv : Kv F) (i : ℕ) (hi : i < 16) (f : Big F)
    (hf : ∀ x, headOf x < i → f x = attnF q kv vv x) : ∀ x, headOf x < i + 1 →
    (attnM.access (headRect i hi)).write (Elt F) f (head q i hi (kvAt kv i hi) (kvAt vv i hi)) Finset.univ x = attnF q kv vv x := by
  intro x hx
  by_cases hxi : headOf x = i
  · have h0 : (x 0).val < 256 := (x 0).isLt
    have h1 : (x 1).val < 512 := (x 1).isLt
    have hy : x = (headRect i hi).emb (ix2 ⟨(x 0).val % 128, Nat.mod_lt _ (by decide)⟩ ⟨(x 1).val % 64, Nat.mod_lt _ (by decide)⟩) := by
      rw [headRect_emb]
      refine (eq_ix2 x).trans ?_
      unfold headOf at hxi
      congr 1 <;> apply Fin.ext
      · show (x 0).val = 128 * (i / 8) + (x 0).val % 128; omega
      · show (x 1).val = 64 * (i % 8) + (x 1).val % 64; omega
    rw [attnF_at q kv vv i hi _ _ x hy]
    refine (congrArg _ hy).trans ?_
    exact View.write_emb_of_mem (v := attnM.access (headRect i hi)) _ _ (Finset.mem_univ _)
  · rw [View.write_of_not_mem]
    · exact hf x (by omega)
    · rw [View.setOn_univ]
      intro hm
      exact hxi ((headRect_set i hi x).mp (by rw [← View.set_slice_whole (sig := sig) cc0_scratch0 (headRect i hi)]; exact hm))

/-- The attention phase: every head's keys and values are read, its queries attended, its rows stored. -/
theorem wp_heads (c : Dev nD) (q : FVec F S256x512 .f32) (kv vv : Kv F) (k : Pg F) (Q : PUnit → sProp 𝕄) :
    ∀ (n i : ℕ) (h : i + n = 16) (f : Big F) (_ : ∀ x, headOf x < i → f x = attnF q kv vv x),
    iprop(pts c kB Finset.univ kv ∗ pts c vB Finset.univ vv ∗ pts c attnB Finset.univ f
        ∗ (pts c kB Finset.univ kv -∗ pts c vB Finset.univ vv -∗ pts c attnB Finset.univ (attnF q kv vv) -∗ WP c k Q))
      ⊢ WP c (heads q n i h k) Q
  | 0, i, h, f, hf => by
    have e : f = attnF q kv vv := funext fun x => hf x (by have := headOf_lt x; omega)
    subst e
    iintro ⟨Hk, Hv, Ha, H⟩
    iapply H $$ [Hk] [Hv]
    · iexact Hk
    · iexact Hv
    iexact Ha
  | n + 1, i, h, f, hf => by
    have hi : i < 16 := by omega
    have e : heads q (n + 1) i h k = .op (.load kM (kvRect i hi).toLoadRect (View.loadsAt_vmem h_S1x128x64)) fun kk =>
      .op (.load vM (kvRect i hi).toLoadRect (View.loadsAt_vmem h_S1x128x64)) fun vv =>
      .op (.load attnM (headRect i hi).toLoadRect (View.loadsAt_vmem h_S128x64)) fun _ =>
      .op (.store attnM (headRect i hi) (head q i hi kk vv) Finset.univ (View.stores_vmem_bits_univ h_S128x64 rfl) (.inl rfl)) fun _ =>
      heads q n (i + 1) (by omega) k := rfl
    rw [e]
    iintro ⟨Hk, Hv, Ha, H⟩
    iapply (wp_load_rect 𝒱₀ (c : Thread nD τ) none Set.univ (m := kM) (r := kvRect i hi) (S := Finset.univ) (q := fullShare) (f := kv) (Finset.subset_univ _)) $$ [Hk]
    · iexact Hk
    iintro Hk
    iapply (wp_load_rect 𝒱₀ (c : Thread nD τ) none Set.univ (m := vM) (r := kvRect i hi) (S := Finset.univ) (q := fullShare) (f := vv) (Finset.subset_univ _)) $$ [Hv]
    · iexact Hv
    iintro Hv
    iapply (wp_load_rect 𝒱₀ (c : Thread nD τ) none Set.univ (m := attnM) (r := headRect i hi) (S := Finset.univ) (q := fullShare) (f := f) (Finset.subset_univ _)) $$ [Ha]
    · iexact Ha
    iintro Ha
    iapply (wp_store 𝒱₀ (c : Thread nD τ) none Set.univ (m := attnM) (r := headRect i hi) (S := Finset.univ) (f := f) (Finset.subset_univ _)) $$ [Ha]
    · iexact Ha
    iintro Ha
    rw [kv_load kM, kv_load vM]
    iapply (wp_heads c q kv vv k Q n (i + 1) _ _ (head_store q kv vv i hi f hf))
    isplitl [Hk]; · iexact Hk
    isplitl [Hv]; · iexact Hv
    isplitl [Ha]; · iexact Ha
    iexact H

end Cert.KernelIdeal.Loops
-- ==== Proof.Blocks.lean ====
/- Buffers taken apart and put together: sixteen row blocks, sixteen slots, sixteen shares; families over the peers. -/
module

public import proofs.«01_k».proof.Proof.Heads
public import Idealize.ShloMosaic.Lib.Rounds.Family

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Talk

variable {F : FTy → Type} [FloatOps F]

local notation "𝕄" => MT nD τ sig Unit (Elt F) ℕ UU ℕ

/-- The peers. -/
abbrev peers : Finset ℕ := Finset.Ico 1 16

/-- Counting the peers from the other end. -/
theorem peers_flip (Φ : ℕ → sProp 𝕄) : bigSep peers Φ = bigSep peers fun d => Φ (16 - d) := by
  have h : peers.image (fun d => 16 - d) = peers := by decide
  conv_lhs => rw [← h]
  exact bigSep_image_of_injOn (fun a ha b hb hab => by
    have ha' := Finset.mem_Ico.mp (Finset.mem_coe.mp ha)
    have hb' := Finset.mem_Ico.mp (Finset.mem_coe.mp hb)
    have : 16 - a = 16 - b := hab
    omega) Φ

/-- Of sixteen facts the first comes apart from the fifteen of the peers. -/
theorem peel0 (Φ : ℕ → sProp 𝕄) : bigSep (Finset.Ico 0 16) Φ = iprop(Φ 0 ∗ bigSep peers Φ) := by
  have h : Finset.Ico 0 16 = insert 0 peers := by decide
  rw [h, BI.bigSep_insert (by decide)]; rfl

/-! ## Blocks -/

section Gen
variable {ℓ : Loc nD τ sig} (I : ℕ → Finset (Idx ℓ))
  (hd : ∀ b ∈ Finset.Ico 0 16, ∀ b' ∈ Finset.Ico 0 16, b ≠ b' → Disjoint (I b) (I b')) (hc : (Finset.Ico 0 16).biUnion I = Finset.univ)
include hd hc

/-- A buffer cut in sixteen is its block 0 and the peers' blocks. -/
theorem cut (f : Buf (Elt F) ℓ) :
    (ℓ ↦[Finset.univ]{fullShare} f : sProp 𝕄) = iprop((ℓ ↦[I 0]{fullShare} f) ∗ bigSep peers fun d => ℓ ↦[I d]{fullShare} f) := by
  rw [← hc, pointsTo_biUnion _ I hd, peel0]

/-- Blocks at any contents make the buffer at some contents. -/
theorem glue (f₀ : Buf (Elt F) ℓ) :
    (iprop((∃ f, ℓ ↦[I 0]{fullShare} f) ∗ bigSep peers fun d => iprop(∃ f, ℓ ↦[I d]{fullShare} f)) : sProp 𝕄)
      ⊢ iprop(∃ f, ℓ ↦[Finset.univ]{fullShare} f) := by
  have : Nonempty (Buf (Elt F) ℓ) := ⟨f₀⟩
  rw [← peel0 (fun d => (iprop(∃ f, ℓ ↦[I d]{fullShare} f) : sProp 𝕄))]
  refine (bigSep_exists_pi _ (fun d (f : Buf (Elt F) ℓ) => (ℓ ↦[I d]{fullShare} f : sProp 𝕄))).trans ?_
  iintro ⟨%fs, H⟩
  ihave H' := (pointsTo_biUnion_join (Finset.Ico 0 16) I fs f₀ hd) $$ H
  icases H' with ⟨%g, -, H⟩
  rw [hc]
  iexists g; iexact H

end Gen

/-- Two offsets under sixteen that lead to one device are one. -/
theorem tgt_inj (c : Dev nD) {d e : ℕ} (hd : d < 16) (he : e < 16) (h : (tgt c d).val = (tgt c e).val) : d = e := by
  have := dev_lt c; simp only [tgt_val] at h; omega

/-- Row blocks counted from the own one. -/
abbrev rowsOf (c : Dev nD) (d : ℕ) : Finset S256x512.Idx := rowSet (tgt c d).val
/-- Two different devices' row blocks share no element. -/
theorem rows_disj (c : Dev nD) : ∀ b ∈ Finset.Ico 0 16, ∀ b' ∈ Finset.Ico 0 16, b ≠ b' → Disjoint (rowsOf c b) (rowsOf c b') := by
  intro b hb b' hb' hne
  rw [Finset.disjoint_left]
  intro i hi hi'
  rw [mem_rowSet] at hi hi'
  exact hne (tgt_inj c (Finset.mem_Ico.mp hb).2 (Finset.mem_Ico.mp hb').2 (hi.symm.trans hi'))
/-- The sixteen row blocks are the whole buffer. -/
theorem rows_cover (c : Dev nD) : (Finset.Ico 0 16).biUnion (rowsOf c) = Finset.univ := by
  refine Finset.eq_univ_of_forall fun i => ?_
  have h0 : (i 0).val < 256 := (i 0).isLt
  have hc := dev_lt c
  refine Finset.mem_biUnion.mpr ⟨((i 0).val / 16 + 16 - c.val) % 16, Finset.mem_Ico.mpr ⟨Nat.zero_le _, Nat.mod_lt _ (by decide)⟩, ?_⟩
  rw [mem_rowSet, tgt_val]; omega
/-- Two different slots share no element. -/
theorem slots_disj : ∀ b ∈ Finset.Ico 0 16, ∀ b' ∈ Finset.Ico 0 16, b ≠ b' → Disjoint (slotSet b) (slotSet b') := by
  intro b _ b' _ hne
  rw [Finset.disjoint_left]
  intro i hi hi'
  rw [mem_slotSet] at hi hi'
  exact hne (hi.symm.trans hi')
/-- The sixteen slots are the whole landing buffer. -/
theorem slots_cover : (Finset.Ico 0 16).biUnion slotSet = Finset.univ := by
  refine Finset.eq_univ_of_forall fun i => ?_
  have h0 : (i 0).val < 16 := (i 0).isLt
  exact Finset.mem_biUnion.mpr ⟨(i 0).val, Finset.mem_Ico.mpr ⟨Nat.zero_le _, h0⟩, (mem_slotSet _ _).mpr rfl⟩

variable (c : Dev nD)

/-- The partial result is the device's own rows and its peers' rows. -/
theorem part_cut (f : Big F) : (pts c partB Finset.univ f : sProp 𝕄)
    = iprop(pts c partB (rowSet c.val) f ∗ bigSep peers fun d => pts c partB (rowSet (tgt c d).val) f) := by
  have h := cut (ℓ := (c : Thread nD τ).loc partB) (rowsOf c) (rows_disj c) (rows_cover c) f
  unfold rowsOf at h
  rw [tgt_zero] at h; exact h
/-- The result is the device's own rows and its peers' rows. -/
theorem out_cut (f : Big F) : (pts c outB Finset.univ f : sProp 𝕄)
    = iprop(pts c outB (rowSet c.val) f ∗ bigSep peers fun d => pts c outB (rowSet (tgt c d).val) f) := by
  have h := cut (ℓ := (c : Thread nD τ).loc outB) (rowsOf c) (rows_disj c) (rows_cover c) f
  unfold rowsOf at h
  rw [tgt_zero] at h; exact h
/-- The landing buffer is slot 0 and its peers' slots. -/
theorem com_cut (f : S16x16x512.Idx → Elt F .f32) : (pts c comB Finset.univ f : sProp 𝕄)
    = iprop(pts c comB (slotSet 0) f ∗ bigSep peers fun d => pts c comB (slotSet d) f) :=
  cut (ℓ := (c : Thread nD τ).loc comB) slotSet slots_disj slots_cover f
/-- The sixteen slots, with whatever each holds, are the landing buffer with some contents. -/
theorem com_glue (f₀ : S16x16x512.Idx → Elt F .f32) :
    (iprop((∃ f, pts c comB (slotSet 0) f) ∗ bigSep peers fun d => iprop(∃ f, pts c comB (slotSet d) f)) : sProp 𝕄) ⊢ iprop(∃ f, pts c comB Finset.univ f) :=
  glue (ℓ := (c : Thread nD τ).loc comB) slotSet slots_disj slots_cover f₀

/-! ## Shares -/

omit [FloatOps F] in
/-- Three facts side by side, regrouped. -/
theorem sep_re (A B C : sProp 𝕄) : iprop((A ∗ B) ∗ C) = iprop(A ∗ B ∗ C) := by
  have h1 : iprop((A ∗ B) ∗ C) ⊢ iprop(A ∗ B ∗ C) := by
    iintro ⟨⟨H1, H2⟩, H3⟩
    isplitl [H1]; · iexact H1
    isplitl [H2] <;> iassumption
  have h2 : iprop(A ∗ B ∗ C) ⊢ iprop((A ∗ B) ∗ C) := by
    iintro ⟨H1, H2, H3⟩
    isplitl [H1 H2]
    · isplitl [H1] <;> iassumption
    iexact H3
  exact BI.equiv_iff.mp ⟨h1, h2⟩

/-- The reduced rows at share `q`. -/
abbrev red (q : PosShare TreeShare) (f : Small F) : sProp 𝕄 :=
  (c : Thread nD τ).loc redB ↦[Finset.univ]{q} (f : Buf (Elt F) ((c : Thread nD τ).loc redB))

/-- The reduced rows from share `d` on are one left share for each of `d … 15` and the remainder. -/
theorem red_cut (f : Small F) : ∀ n d : ℕ, d + n = 16 →
    red c (shr d) f = iprop((bigSep (Finset.Ico d 16) fun e => red c (shr e).left f) ∗ red c (shr 16) f)
  | 0, d, h => by
    obtain rfl : d = 16 := by omega
    rw [peel_done]
    exact (BI.equiv_iff.mp emp_sep).symm
  | n + 1, d, h => by
    rw [peel d (by omega)]
    have hs : red c (shr d) f = iprop(red c (shr d).left f ∗ red c (shr (d + 1)) f) :=
      BI.equiv_iff.mp ⟨(pointsTo_share (PosShare.mem_left_op_right (shr d))).1, (pointsTo_share (PosShare.mem_left_op_right (shr d))).2⟩
    rw [hs, red_cut f n (d + 1) (by omega)]
    exact (sep_re _ _ _).symm

/-- The reduced rows whole are the kept share, the peers' shares and a remainder. -/
theorem red_shares (f : Small F) :
    red c fullShare f = iprop((red c (shr 0).left f ∗ bigSep peers fun e => red c (shr e).left f) ∗ red c (shr 16) f) := by
  have h := red_cut c f 16 0 rfl
  rw [peel0] at h
  exact h

/-! ## Families a phase spends and makes -/

variable (P : Dev nD → Big F) (R : Dev nD → Small F) (K : GSem nD τ sig → ℕ)

/-- Positions and rounds of the own copy cells of array `a`. -/
abbrev ats (a r : ℕ) : sProp 𝕄 := bigSep peers fun d => atPos ER (cpCell a d c) r ∅ 0
/-- The own copy cells of array `a` are at round 0. -/
abbrev rds (a : ℕ) : sProp 𝕄 := bigSep peers fun d => reached ER (cpCell a d c) 0
/-- Rounds of the peers' receive cells. -/
abbrev rdsT (a : ℕ) : sProp 𝕄 := bigSep peers fun d => reached ER (cpCell a d (tgt c d)) 0
/-- The credits for waiting on the own copy cells of array `a`. -/
abbrev crs (a : ℕ) : sProp 𝕄 := bigSep peers fun d => cred (tallyAt (cpCell a d c) () N)
/-- The duties of the own copy cells of array `a`. -/
abbrev toks (a : ℕ) : sProp 𝕄 := bigSep peers fun d => dutyTok ER (cpCell a d c) 0 0
/-- The duties the device pays at its peers' copy cells of array `a`. -/
abbrev toksT (a : ℕ) : sProp 𝕄 := bigSep peers fun d => dutyTok ER (cpCell a d (tgt c d)) 0 0
/-- The duties the device pays at its peers' barriers. -/
abbrev toksB : sProp 𝕄 := bigSep peers fun d => iprop(dutyTok ER (barCell (tgt c d)) 0 (16 - d) ∗ reached ER (barCell (tgt c d)) 0)

/-- What the signals spend: the duties at the peers' barriers, the peers' landing slots and rows of the result. -/
theorem sig_intro (fm : S16x16x512.Idx → Elt F .f32) (fo : Big F) :
    (iprop(toksB c ∗ (bigSep peers fun d => pts c comB (slotSet d) fm) ∗ (bigSep peers fun d => pts c outB (rowSet (tgt c d).val) fo) ∗ rds c 1 ∗ rds c 3) : sProp 𝕄)
      ⊢ bigSep peers (sigRes c) := by
  unfold toksB rds
  rw [peers_flip (fun d => (pts c comB (slotSet d) fm : sProp 𝕄)), peers_flip (fun d => (reached ER (cpCell 1 d c) 0 : sProp 𝕄)),
    peers_flip (fun d => (reached ER (cpCell 3 d c) 0 : sProp 𝕄)), ← bigSep_sep', ← bigSep_sep', ← bigSep_sep', ← bigSep_sep']
  have h (d : ℕ) (hd : d ∈ peers) : iprop((dutyTok ER (barCell (tgt c d)) 0 (16 - d) ∗ reached ER (barCell (tgt c d)) 0)
      ∗ pts c comB (slotSet (16 - d)) fm ∗ pts c outB (rowSet (tgt c d).val) fo ∗ reached ER (cpCell 1 (16 - d) c) 0 ∗ reached ER (cpCell 3 (16 - d) c) 0)
      ⊢ (sigRes c d : sProp 𝕄) := by
    unfold sigRes barPay
    rw [tgt_back c d (by have := (Finset.mem_Ico.mp hd).2; omega)]
    iintro ⟨⟨Ht, #Hr⟩, Hm, Ho, #H1, #H3⟩
    isplitl [Ht]; · iexact Ht
    isplitr; · iexact Hr
    isplitl [Hm]; · iexists fm; iexact Hm
    isplitl [Ho]; · iexists fo; iexact Ho
    isplitr; · iexact H1
    iexact H3
  exact bigSep_mono h

/-- What the barrier's wait gives. -/
theorem bar_elim : (bigSep peers (barPay (F := F) c) : sProp 𝕄)
    = iprop((bigSep peers fun d => iprop(∃ f, pts (tgt c d) comB (slotSet d) f)) ∗ (bigSep peers fun d => iprop(∃ f, pts (tgt c d) outB (rowSet c.val) f))
      ∗ rdsT c 1 ∗ rdsT c 3) := by
  have e : (barPay (F := F) c) = fun d => iprop((∃ f, pts (tgt c d) comB (slotSet d) f) ∗ (∃ f, pts (tgt c d) outB (rowSet c.val) f)
    ∗ reached ER (cpCell 1 d (tgt c d)) 0 ∗ reached ER (cpCell 3 d (tgt c d)) 0) := rfl
  rw [e, bigSep_sep', bigSep_sep', bigSep_sep']

/-- What the sends spend, by kind. -/
theorem s1_intro : (bigSep peers (s1Res P c) : sProp 𝕄)
    = iprop(toks c 0 ∗ rds c 0 ∗ toksT c 1 ∗ rdsT c 1 ∗ (bigSep peers fun d => pts c partB (rowSet (tgt c d).val) (P c))
      ∗ bigSep peers fun d => iprop(∃ f, pts (tgt c d) comB (slotSet d) f)) := by
  have e : s1Res P c = fun d => iprop(dutyTok ER (cpCell 0 d c) 0 0 ∗ reached ER (cpCell 0 d c) 0 ∗ dutyTok ER (cpCell 1 d (tgt c d)) 0 0 ∗ reached ER (cpCell 1 d (tgt c d)) 0
    ∗ pts c partB (rowSet (tgt c d).val) (P c) ∗ (∃ f, pts (tgt c d) comB (slotSet d) f)) := rfl
  rw [e, bigSep_sep', bigSep_sep', bigSep_sep', bigSep_sep', bigSep_sep']
/-- What the second sends spend, by kind. -/
theorem s2_intro : (bigSep peers (s2Res R c) : sProp 𝕄)
    = iprop(toks c 2 ∗ rds c 2 ∗ toksT c 3 ∗ rdsT c 3 ∗ (bigSep peers fun d => red c (shr d).left (R c))
      ∗ bigSep peers fun d => iprop(∃ f, pts (tgt c d) outB (rowSet c.val) f)) := by
  have e : s2Res R c = fun d => iprop(dutyTok ER (cpCell 2 d c) 0 0 ∗ reached ER (cpCell 2 d c) 0 ∗ dutyTok ER (cpCell 3 d (tgt c d)) 0 0 ∗ reached ER (cpCell 3 d (tgt c d)) 0
    ∗ red c (shr d).left (R c) ∗ (∃ f, pts (tgt c d) outB (rowSet c.val) f)) := rfl
  rw [e, bigSep_sep', bigSep_sep', bigSep_sep', bigSep_sep', bigSep_sep']
/-- What the waits on array `a` spend: a credit and a position for each. -/
theorem wait_intro (a : ℕ) : (bigSep peers (waitRes (F := F) a c) : sProp 𝕄) = iprop(crs c a ∗ ats c a 0) := by
  have e : (waitRes (F := F) a c) = fun d => iprop(cred (tallyAt (cpCell a d c) () N) ∗ atPos ER (cpCell a d c) 0 ∅ 0) := rfl
  rw [e, bigSep_sep']
/-- What the waits on array `a` give: a position one round on and the payload for each. -/
theorem wait_elim (a : ℕ) : (bigSep peers (waitOut P R a c) : sProp 𝕄) = iprop(ats c a 1 ∗ bigSep peers fun d => cpPay P R a d c) := by
  have e : (waitOut P R a c) = fun d => iprop(atPos ER (cpCell a d c) (0 + 1) ∅ 0 ∗ cpPay P R a d c) := rfl
  rw [e, bigSep_sep']

/-- The copy cells of one array closed: every counter at zero. -/
theorem close_cp (a : ℕ) (ha : a < 4) : iprop(recs P R K ∗ ats c a 1) ⊢ (|={Set.univ}=> bigSep peers fun d => semVal (cpCell a d c) 0 : sProp 𝕄) := by
  have h : iprop(recs P R K ∗ ats c a 1) ⊢ (bigSep peers fun d => iprop(cellInv ER (talk P R) (K (cpCell a d c)) (cpCell a d c) ∗ atPos ER (cpCell a d c) 1 ∅ 0) : sProp 𝕄) :=
    bigSep_with_persistent fun d hd => by
      iintro ⟨#Hr, Hat⟩
      isplitr
      · iapply (recs_cp P R K a d ha (Finset.mem_Ico.mp hd).1 (Finset.mem_Ico.mp hd).2 c); iexact Hr
      iexact Hat
  exact h.trans (cells_close ER (talk P R) peers (fun d => cpCell a d c) (fun d => K (cpCell a d c)) (fun _ _ => Set.mem_univ _) (fun _ _ => id) (fun _ => 1)
    fun d _ => duties_later P R _)
/-- A device's barrier closed: its counter at zero. -/
theorem close_bar : iprop(recs P R K ∗ atPos ER (barCell c) 1 ∅ 0) ⊢ (|={Set.univ}=> semVal (barCell c) 0 : sProp 𝕄) := by
  iintro ⟨#Hr, Hat⟩
  iapply (cell_close ER (talk P R) (κ := K (barCell c)) (Set.mem_univ _) id (duties_later P R _))
  isplitr; · iapply (recs_bar P R K c); iexact Hr
  iexact Hat

end Cert.KernelIdeal.Loops
-- ==== Proof.Body.lean ====
/- One device's run: the phases put together. -/
module

public import proofs.«01_k».proof.Proof.Blocks

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Talk

variable {F : FTy → Type} [FloatOps F]

local notation "𝕄" => MT nD τ sig Unit (Elt F) ℕ UU ℕ

variable (P : Dev nD → Big F) (R : Dev nD → Small F) (K : GSem nD τ sig → ℕ) (c : Dev nD)

/-! ## Whole buffers read and written -/

/-- The whole of a 256-row buffer. -/
abbrev bigRect : Rect S256x512 := Rect.unit (s := S256x512) ![0, 0] S256x512.size inb_S256x512_S256x512_0_0
/-- The whole of a weight block. -/
abbrev matRect : Rect S512x512 := Rect.unit (s := S512x512) ![0, 0] S512x512.size inb_S512x512_S512x512_0_0
/-- The whole of the reduced rows. -/
abbrev smallRect : Rect S16x512 := Rect.unit (s := S16x512) ![0, 0] S16x512.size inb_S16x512_S16x512_0_0
/-- The device's own rows of a 256-row buffer. -/
abbrev ownRect : Rect S256x512 := rowRect (k0_off2 c) (k0_off2_inb c)

omit [FloatOps F] in
/-- Reading all of `x` gives its contents. -/
theorem x_read (f : Big F) : (xM.access bigRect).read (Elt F) f = f := Memref.read_access_unit_zero (Elt F) xB zero2 _ f
omit [FloatOps F] in
/-- Reading all of the attention gives its contents. -/
theorem attn_read (f : Big F) : (attnM.access bigRect).read (Elt F) f = f := Memref.read_access_unit_zero (Elt F) attnB zero2 _ f
omit [FloatOps F] in
/-- Reading all of the query weights gives their contents. -/
theorem q_read (f : Mat F) : (qM.access matRect).read (Elt F) f = f := Memref.read_access_unit_zero (Elt F) qB zero2 _ f
omit [FloatOps F] in
/-- Reading all of the output weights gives their contents. -/
theorem o_read (f : Mat F) : (oM.access matRect).read (Elt F) f = f := Memref.read_access_unit_zero (Elt F) oB zero2 _ f
omit [FloatOps F] in
/-- Reading all of the reduced rows gives their contents. -/
theorem red_read (f : Small F) : (redM.access smallRect).read (Elt F) f = f := Memref.read_access_unit_zero (Elt F) redB zero2 _ f
omit [FloatOps F] in
/-- After a store of all the reduced rows they hold what was stored. -/
theorem red_write (f w : Small F) : (redM.access smallRect).write (Elt F) f w Finset.univ = w := Memref.write_access_unit_zero_univ (Elt F) redB zero2 _ f w
omit [FloatOps F] in
/-- After a store of all the partial result it holds what was stored. -/
theorem part_write (f w : Big F) : (partM.access bigRect).write (Elt F) f w Finset.univ = w := Memref.write_access_unit_zero_univ (Elt F) partB zero2 _ f w
/-! ## The result and the last waits -/

/-- What the last part leaves: all sends and second receives landed, the result's own rows stored. -/
def tailOut : sProp 𝕄 :=
  iprop(red c (shr 0).left (R c) ∗ pts c outB (rowSet c.val) (outF R)
    ∗ (ats c 3 1 ∗ bigSep peers fun d => cpPay P R 3 d c) ∗ (ats c 0 1 ∗ bigSep peers fun d => cpPay P R 0 d c)
    ∗ (ats c 2 1 ∗ bigSep peers fun d => cpPay P R 2 d c) ∗ owing c 0)

/-- The last part: it stores the own reduced rows in the result and waits for the second receives and for all sends. -/
theorem wp_tail (fo : Big F) (Q : PUnit → sProp 𝕄) :
    iprop(recs P R K ∗ levAts L lv ∗ red c (shr 0).left (R c) ∗ pts c outB (rowSet c.val) fo
        ∗ (crs c 3 ∗ ats c 3 0) ∗ (crs c 0 ∗ ats c 0 0) ∗ (crs c 2 ∗ ats c 2 0) ∗ owing c 0
        ∗ (tailOut P R c -∗ WP c (.ret ⟨⟩) Q))
      ⊢ WP c (tailP c) Q := by
  unfold tailP
  iintro ⟨#Hrec, #Hlev, Hr, Ho, H3, H0, H2, HO, Hk⟩
  iapply (wp_load_rect 𝒱₀ (c : Thread nD τ) none Set.univ (m := redM) (r := smallRect) (S := Finset.univ) (q := (shr 0).left) (f := R c) (Finset.subset_univ _)) $$ [Hr]
  · iexact Hr
  iintro Hr
  rw [red_read]
  iapply (wp_load_rect 𝒱₀ (c : Thread nD τ) none Set.univ (m := outM) (r := ownRect c) (S := rowSet c.val) (q := fullShare) (f := fo)
    (by rw [← rowRect_set _ (k0_off2_inb c) _ (off2_eq c)]; exact (View.set_slice_whole _ _).le)) $$ [Ho]
  · iexact Ho
  iintro Ho
  iapply (wp_store 𝒱₀ (c : Thread nD τ) none Set.univ (m := outM) (r := ownRect c) (S := rowSet c.val) (f := fo)
    (by rw [← rowRect_set _ (k0_off2_inb c) _ (off2_eq c)]; exact (View.set_slice_whole _ _).le)) $$ [Ho]
  · iexact Ho
  iintro Ho
  iapply (wp_waitsR P R K c)
  isplitr; · iexact Hrec
  isplitr; · iexact Hlev
  isplitl [H3]; · rw [wait_intro]; iexact H3
  isplitl [HO]; · iexact HO
  iintro H3 HO
  iapply (wp_waitsS P R K c)
  isplitr; · iexact Hrec
  isplitr; · iexact Hlev
  isplitl [H0]; · rw [wait_intro]; iexact H0
  isplitl [HO]; · iexact HO
  iintro H0 HO
  iapply (wp_waitsT P R K c)
  isplitr; · iexact Hrec
  isplitr; · iexact Hlev
  isplitl [H2]; · rw [wait_intro]; iexact H2
  isplitl [HO]; · iexact HO
  iintro H2 HO
  ihave H3 := (Entails.of_eq (wait_elim c P R 3)) $$ H3
  ihave H0 := (Entails.of_eq (wait_elim c P R 0)) $$ H0
  ihave H2 := (Entails.of_eq (wait_elim c P R 2)) $$ H2
  iapply Hk
  unfold tailOut
  isplitl [Hr]; · iexact Hr
  isplitl [Ho]; · iapply (Entails.of_eq (pointsTo_congr (own_store R c fo))); iexact Ho
  isplitl [H3]; · iexact H3
  isplitl [H0]; · iexact H0
  isplitl [H2]; · iexact H2
  iexact HO

/-! ## The reduction and the second sends -/

/-- From the reduction on: it sums the landed slots and the own rows, sends the sum to every peer and finishes. -/
theorem wp_mid (hR : R c = redF P c) (fo : Big F) (fr : Small F) (Q : PUnit → sProp 𝕄) :
    iprop(recs P R K ∗ levAts L lv ∗ pts c partB (rowSet c.val) (P c) ∗ red c fullShare fr ∗ pts c outB (rowSet c.val) fo
        ∗ (toks c 2 ∗ rds c 2 ∗ toksT c 3 ∗ rdsT c 3 ∗ bigSep peers fun d => iprop(∃ f, pts (tgt c d) outB (rowSet c.val) f))
        ∗ (crs c 1 ∗ ats c 1 0) ∗ (crs c 3 ∗ ats c 3 0) ∗ (crs c 0 ∗ ats c 0 0) ∗ ats c 2 0 ∗ owing c (oweR 3 c 1)
        ∗ ((tailOut P R c ∗ pts c partB (rowSet c.val) (P c) ∗ red c (shr 16) (R c) ∗ ats c 1 1 ∗ bigSep peers fun d => cpPay P R 1 d c) -∗ WP c (.ret ⟨⟩) Q))
      ⊢ WP c (midP c) Q := by
  unfold midP
  iintro ⟨#Hrec, #Hlev, Hp, Hr, Ho, ⟨Ht2, #Hr2, Ht3, #Hr3, Hdst⟩, H1, H3, H0, H2, HO, Hk⟩
  iapply (wp_load_rect 𝒱₀ (c : Thread nD τ) none Set.univ (m := partM) (r := ownRect c) (S := rowSet c.val) (q := fullShare) (f := P c)
    (by rw [← rowRect_set _ (k0_off2_inb c) _ (off2_eq c)]; exact (View.set_slice_whole _ _).le)) $$ [Hp]
  · iexact Hp
  iintro Hp
  rw [own_load]
  iapply (wp_recvs P R K c)
  isplitr; · iexact Hrec
  isplitr; · iexact Hlev
  isplitl [H1]; · rw [wait_intro]; iexact H1
  isplitl [HO]; · iexact HO
  iintro H1 HO
  iapply (wp_load_rect 𝒱₀ (c : Thread nD τ) none Set.univ (m := redM) (r := smallRect) (S := Finset.univ) (q := fullShare) (f := fr) (Finset.subset_univ _)) $$ [Hr]
  · iexact Hr
  iintro Hr
  iapply (wp_store 𝒱₀ (c : Thread nD τ) none Set.univ (m := redM) (r := smallRect) (S := Finset.univ) (f := fr) (Finset.subset_univ _)) $$ [Hr]
  · iexact Hr
  iintro Hr
  rw [red_write,
    show shapeCast S16x512 (accAll P c 15 1 rfl (ownV P c)) shapeCasts_S16x512_S16x512 = R c from hR.symm]
  ihave Hr := (Entails.of_eq (red_shares c (R c))) $$ Hr
  icases Hr with ⟨⟨Hr, Hrs⟩, Hrest⟩
  iapply (wp_sends2 P R K c 0)
  isplitr; · iexact Hrec
  isplitr; · iexact Hlev
  isplitl [Ht2 Ht3 Hrs Hdst]
  · rw [s2_intro]
    isplitl [Ht2]; · iexact Ht2
    isplitr; · iexact Hr2
    isplitl [Ht3]; · iexact Ht3
    isplitr; · iexact Hr3
    isplitl [Hrs]; · iexact Hrs
    iexact Hdst
  isplitl [HO]; · rw [zero_add]; iexact HO
  iintro Hc2 HO
  iapply (wp_tail P R K c fo)
  isplitr; · iexact Hrec
  isplitr; · iexact Hlev
  isplitl [Hr]; · iexact Hr
  isplitl [Ho]; · iexact Ho
  isplitl [H3]; · iexact H3
  isplitl [H0]; · iexact H0
  isplitl [Hc2 H2]
  · isplitl [Hc2] <;> iassumption
  isplitl [HO]; · iexact HO
  iintro Ht
  ihave H1 := (Entails.of_eq (wait_elim c P R 1)) $$ H1
  iapply Hk
  isplitl [Ht]; · iexact Ht
  isplitl [Hp]; · iexact Hp
  isplitl [Hrest]; · iexact Hrest
  iexact H1

/-! ## The projection and the first sends -/

/-- What is in hand when the run is over, before the cells are closed. -/
def runOut (fa : Big F) (wo : Mat F) (fc : S16x16x512.Idx → Elt F .f32) : sProp 𝕄 :=
  iprop((tailOut P R c ∗ pts c partB (rowSet c.val) (P c) ∗ red c (shr 16) (R c) ∗ ats c 1 1 ∗ bigSep peers fun d => cpPay P R 1 d c)
    ∗ pts c attnB Finset.univ fa ∗ pts c oB Finset.univ wo ∗ pts c comB (slotSet 0) fc)

/-- From the projection on: it stores the partial result, sends each peer its rows, reduces, sends again and finishes. -/
theorem wp_proj (hR : R c = redF P c) (fa : Big F) (wo : Mat F) (hP : P c = k0_pay33 fa wo) (fp fo : Big F) (fr : Small F)
    (fc : S16x16x512.Idx → Elt F .f32) (Q : PUnit → sProp 𝕄) :
    iprop(recs P R K ∗ levAts L lv ∗ pts c attnB Finset.univ fa ∗ pts c oB Finset.univ wo ∗ pts c partB Finset.univ fp
        ∗ red c fullShare fr ∗ pts c outB (rowSet c.val) fo ∗ pts c comB (slotSet 0) fc
        ∗ (toks c 0 ∗ rds c 0 ∗ toksT c 1 ∗ rdsT c 1 ∗ bigSep peers fun d => iprop(∃ f, pts (tgt c d) comB (slotSet d) f))
        ∗ (toks c 2 ∗ rds c 2 ∗ toksT c 3 ∗ rdsT c 3 ∗ bigSep peers fun d => iprop(∃ f, pts (tgt c d) outB (rowSet c.val) f))
        ∗ (crs c 1 ∗ ats c 1 0) ∗ (crs c 3 ∗ ats c 3 0) ∗ ats c 0 0 ∗ ats c 2 0 ∗ owing c (oweR 3 c 1 + oweR 1 c 1)
        ∗ (runOut P R c fa wo fc -∗ WP c (.ret ⟨⟩) Q))
      ⊢ WP c (projP c) Q := by
  unfold projP
  iintro ⟨#Hrec, #Hlev, Ha, Hw, Hp, Hr, Ho, Hm, ⟨Ht0, #Hr0, Ht1, #Hr1, Hdst⟩, Hs2, H1, H3, H0, H2, HO, Hk⟩
  iapply (wp_load_rect 𝒱₀ (c : Thread nD τ) none Set.univ (m := attnM) (r := bigRect) (S := Finset.univ) (q := fullShare) (f := fa) (Finset.subset_univ _)) $$ [Ha]
  · iexact Ha
  iintro Ha
  rw [attn_read]
  iapply (wp_load_rect 𝒱₀ (c : Thread nD τ) none Set.univ (m := oM) (r := matRect) (S := Finset.univ) (q := fullShare) (f := wo) (Finset.subset_univ _)) $$ [Hw]
  · iexact Hw
  iintro Hw
  rw [o_read]
  iapply (wp_load_rect 𝒱₀ (c : Thread nD τ) none Set.univ (m := partM) (r := bigRect) (S := Finset.univ) (q := fullShare) (f := fp) (Finset.subset_univ _)) $$ [Hp]
  · iexact Hp
  iintro Hp
  iapply (wp_store 𝒱₀ (c : Thread nD τ) none Set.univ (m := partM) (r := bigRect) (S := Finset.univ) (f := fp) (Finset.subset_univ _)) $$ [Hp]
  · iexact Hp
  iintro Hp
  rw [part_write, ← hP]
  ihave Hp := (Entails.of_eq (part_cut c (P c))) $$ Hp
  icases Hp with ⟨Hp, Hps⟩
  iapply (wp_sends1 P R K c (oweR 3 c 1))
  isplitr; · iexact Hrec
  isplitr; · iexact Hlev
  isplitl [Ht0 Ht1 Hps Hdst]
  · rw [s1_intro]
    isplitl [Ht0]; · iexact Ht0
    isplitr; · iexact Hr0
    isplitl [Ht1]; · iexact Ht1
    isplitr; · iexact Hr1
    isplitl [Hps]; · iexact Hps
    iexact Hdst
  isplitl [HO]; · iexact HO
  iintro Hc0 HO
  iapply (wp_mid P R K c hR fo fr)
  isplitr; · iexact Hrec
  isplitr; · iexact Hlev
  isplitl [Hp]; · iexact Hp
  isplitl [Hr]; · iexact Hr
  isplitl [Ho]; · iexact Ho
  isplitl [Hs2]; · iexact Hs2
  isplitl [H1]; · iexact H1
  isplitl [H3]; · iexact H3
  isplitl [Hc0 H0]
  · isplitl [Hc0] <;> iassumption
  isplitl [H2]; · iexact H2
  isplitl [HO]; · iexact HO
  iintro Hx
  iapply Hk
  unfold runOut
  isplitl [Hx]; · iexact Hx
  isplitl [Ha]; · iexact Ha
  isplitl [Hw]; · iexact Hw
  iexact Hm

/-! ## The whole run -/

/-- What device `c` starts its kernel with, beside its buffers: its barrier's credit and position; the duties it pays at its
    peers; the duties and positions of its own copy cells; the credits of what it is to receive. -/
def talkPre : sProp 𝕄 :=
  iprop((cred (tallyAt (barCell c) () 15) ∗ atPos ER (barCell c) 0 ∅ 0) ∗ toksB c
    ∗ (toks c 0 ∗ rds c 0 ∗ toksT c 1) ∗ (toks c 2 ∗ rds c 2 ∗ toksT c 3) ∗ (crs c 1 ∗ ats c 1 0 ∗ rds c 1) ∗ (crs c 3 ∗ ats c 3 0 ∗ rds c 3) ∗ ats c 0 0 ∗ ats c 2 0)

/-- The four scratch buffers, at any contents. -/
def scratch : sProp 𝕄 :=
  iprop((∃ f, pts c attnB Finset.univ f) ∗ (∃ f, pts c partB Finset.univ f) ∗ (∃ f, pts c redB Finset.univ f) ∗ (∃ f, pts c comB Finset.univ f))

/-- The five inputs as staged. -/
def inputs (x : Big F) (wq wo : Mat F) (kv vv : Kv F) : sProp 𝕄 :=
  iprop(pts c xB Finset.univ x ∗ pts c qB Finset.univ wq ∗ pts c oB Finset.univ wo ∗ pts c kB Finset.univ kv ∗ pts c vB Finset.univ vv)

/-- Every own counter back at zero. -/
def zeros : sProp 𝕄 :=
  iprop(semVal (barCell c) 0 ∗ (bigSep peers fun d => semVal (cpCell 0 d c) 0) ∗ (bigSep peers fun d => semVal (cpCell 1 d c) 0)
    ∗ (bigSep peers fun d => semVal (cpCell 2 d c) 0) ∗ (bigSep peers fun d => semVal (cpCell 3 d c) 0))

/-- The partial result of a device from its staged inputs. -/
def partF (x : Big F) (wq wo : Mat F) (kv vv : Kv F) : Big F := k0_pay33 (attnF (k0_pay1 x wq) kv vv) wo

/-- The run over: the result whole, the scratch whole, what is left of the ghost state. -/
theorem run_elim (fa : Big F) (wo : Mat F) (fc : S16x16x512.Idx → Elt F .f32) :
    runOut P R c fa wo fc ⊢ iprop(scratch c ∗ pts c oB Finset.univ wo ∗ pts c outB Finset.univ (outF R) ∗ ats c 0 1 ∗ ats c 1 1 ∗ ats c 2 1 ∗ ats c 3 1 ∗ owing c 0) := by
  have hcom : (bigSep peers fun d => cpPay P R 1 d c) ⊢ (bigSep peers fun d => iprop(∃ f, pts c comB (slotSet d) f) : sProp 𝕄) := by
    refine bigSep_mono fun d _ => ?_
    have h : cpPay P R 1 d c ⊢ (iprop(∃ f, pts c comB (slotSet d) f) : sProp 𝕄) := by
      unfold cpPay
      iintro H; iexists _; iexact H
    exact h
  have hout : (bigSep peers fun d => cpPay P R 3 d c) = (bigSep peers fun d => pts c outB (rowSet (tgt c d).val) (outF R) : sProp 𝕄) :=
    (peers_flip (fun d => (pts c outB (rowSet (tgt c d).val) (outF R) : sProp 𝕄))).symm
  unfold runOut tailOut scratch
  iintro ⟨⟨⟨Hr, Ho, ⟨Ha3, Hos⟩, ⟨Ha0, Hps⟩, ⟨Ha2, Hrs⟩, HO⟩, Hp, Hrest, Ha1, Hms⟩, Ha, Hw, Hm⟩
  isplitl [Hr Hrs Hrest Hp Hps Hms Hm Ha]
  · isplitl [Ha]; · iexists fa; iexact Ha
    isplitl [Hp Hps]
    · iexists P c
      iapply (Entails.of_eq (part_cut c (P c)).symm)
      isplitl [Hp]; · iexact Hp
      iexact Hps
    isplitl [Hr Hrs Hrest]
    · iexists R c
      iapply (Entails.of_eq (red_shares c (R c)).symm)
      isplitl [Hr Hrs]
      · isplitl [Hr]; · iexact Hr
        iexact Hrs
      iexact Hrest
    iapply (com_glue c fc)
    isplitl [Hm]; · iexists fc; iexact Hm
    iapply hcom; iexact Hms
  isplitl [Hw]; · iexact Hw
  isplitl [Ho Hos]
  · iapply (Entails.of_eq (out_cut c (outF R)).symm)
    isplitl [Ho]; · iexact Ho
    iapply (Entails.of_eq hout); iexact Hos
  isplitl [Ha0]; · iexact Ha0
  isplitl [Ha1]; · iexact Ha1
  isplitl [Ha2]; · iexact Ha2
  isplitl [Ha3]; · iexact Ha3
  iexact HO

/-- The empty text: what is to hold after it holds already, up to an update. -/
theorem wp_end (Q : PUnit → sProp 𝕄) : (|={Set.univ}=> Q ⟨⟩ : sProp 𝕄) ⊢ WP c (.ret ⟨⟩) Q := by
  unfold WP; rw [wp_ret]
omit [FloatOps F] in
/-- The printed wait on the barrier is a wait for fifteen units. -/
theorem barWait_eq (k : PUnit → Pg F) : (semWaitWord barSem 15#32).bind k = .op (.semWait barS 15) k := rfl

/-- One device's run: from its start it ends with its inputs unchanged, the result at every device's reduced rows, every own
    counter at zero and nothing owed. -/
theorem wp_looped (x : Big F) (wq wo : Mat F) (kv vv : Kv F) (hP : P c = partF x wq wo kv vv) (hR : R c = redF P c)
    (fo : Big F) (Q : PUnit → sProp 𝕄) :
    iprop(recs P R K ∗ levAts L lv ∗ talkPre c ∗ scratch c ∗ inputs c x wq wo kv vv ∗ pts c outB Finset.univ fo ∗ owing c (O₀ c)
        ∗ ((zeros c ∗ scratch c ∗ inputs c x wq wo kv vv ∗ pts c outB Finset.univ (outF R) ∗ owing c 0) -∗ Q ⟨⟩))
      ⊢ WP c looped Q := by
  unfold looped WP
  rw [wp_deviceId, barWait_eq]
  unfold talkPre
  have hs : (scratch c : sProp 𝕄) = iprop((∃ f, pts c attnB Finset.univ f) ∗ (∃ f, pts c partB Finset.univ f) ∗ (∃ f, pts c redB Finset.univ f) ∗ (∃ f, pts c comB Finset.univ f)) := rfl
  have hi : (inputs c x wq wo kv vv : sProp 𝕄) = iprop(pts c xB Finset.univ x ∗ pts c qB Finset.univ wq ∗ pts c oB Finset.univ wo ∗ pts c kB Finset.univ kv ∗ pts c vB Finset.univ vv) := rfl
  iintro ⟨#Hrec, #Hlev, ⟨⟨HcB, HatB⟩, HtB, ⟨Ht0, #Hr0, Ht1⟩, ⟨Ht2, #Hr2, Ht3⟩, ⟨Hc1, Ha1, #Hr1⟩, ⟨Hc3, Ha3, #Hr3⟩, Ha0, Ha2⟩, Hscr, Hin, Ho, HO, Hk⟩
  ihave Hscr := (Entails.of_eq hs) $$ Hscr
  ihave Hin := (Entails.of_eq hi) $$ Hin
  icases Hscr with ⟨⟨%fa, Ha⟩, ⟨%fp, Hp⟩, ⟨%fr, Hr⟩, ⟨%fm, Hm⟩⟩
  icases Hin with ⟨Hx, Hq, Hw, Hkk, Hv⟩
  ihave Hm := (Entails.of_eq (com_cut c fm)) $$ Hm
  ihave Ho := (Entails.of_eq (out_cut c fo)) $$ Ho
  icases Hm with ⟨Hm, Hms⟩
  icases Ho with ⟨Ho, Hos⟩
  iapply (wp_signals P R K c (oweR 3 c 1 + oweR 1 c 1))
  isplitr; · iexact Hrec
  isplitr; · iexact Hlev
  isplitl [HtB Hms Hos]
  · iapply (sig_intro c fm fo)
    isplitl [HtB]; · iexact HtB
    isplitl [Hms]; · iexact Hms
    isplitl [Hos]; · iexact Hos
    isplitr; · iexact Hr1
    iexact Hr3
  isplitl [HO]; · iexact HO
  iintro ⟨%W, HO⟩
  iapply (Rounds.wp_wait_rest_token 𝒱₀ ER (talk P R) (c : Thread nD τ) none (κ := K (barCell c)) (sm := .reg barS) (k' := 15)
      (wpE_semWait_eq 𝒱₀ (c : Thread nD τ) none Set.univ) (Set.mem_univ _) () (O := oweR 3 c 1 + oweR 1 c 1) (W := W) (R := 0) (m := 0) (T := ∅)
      ((Nat.zero_add 15).trans (expect_bar P R c).symm)) $$ [HcB HO HatB]
  · isplitr; · iapply (recs_bar P R K c); iexact Hrec
    isplitl [HcB]; · iexact HcB
    isplitl [HO]; · iexact HO
    isplitr; · iapply (mayWait_bar c); iexact Hlev
    iexact HatB
  iintro ⟨HO, HatB, -, Hpay⟩
  ihave Hpay := (Entails.of_eq ((rest_bar P R c).trans (bar_elim c))) $$ Hpay
  icases Hpay with ⟨Hdst1, Hdst2, #HrT1, #HrT3⟩
  iapply (wp_load_rect 𝒱₀ (c : Thread nD τ) none Set.univ (m := xM) (r := bigRect) (S := Finset.univ) (q := fullShare) (f := x) (Finset.subset_univ _)) $$ [Hx]
  · iexact Hx
  iintro Hx
  iapply (wp_load_rect 𝒱₀ (c : Thread nD τ) none Set.univ (m := qM) (r := matRect) (S := Finset.univ) (q := fullShare) (f := wq) (Finset.subset_univ _)) $$ [Hq]
  · iexact Hq
  iintro Hq
  rw [x_read, q_read]
  iapply (wp_heads c (k0_pay1 x wq) kv vv _ _ 16 0 rfl fa (fun _ h => absurd h (Nat.not_lt_zero _)))
  isplitl [Hkk]; · iexact Hkk
  isplitl [Hv]; · iexact Hv
  isplitl [Ha]; · iexact Ha
  iintro Hkk Hv Ha
  iapply (wp_proj P R K c hR (attnF (k0_pay1 x wq) kv vv) wo hP fp fo fr fm)
  isplitr; · iexact Hrec
  isplitr; · iexact Hlev
  isplitl [Ha]; · iexact Ha
  isplitl [Hw]; · iexact Hw
  isplitl [Hp]; · iexact Hp
  isplitl [Hr]; · iexact Hr
  isplitl [Ho]; · iexact Ho
  isplitl [Hm]; · iexact Hm
  isplitl [Ht0 Ht1 Hdst1]
  · isplitl [Ht0]; · iexact Ht0
    isplitr; · iexact Hr0
    isplitl [Ht1]; · iexact Ht1
    isplitr; · iexact HrT1
    iexact Hdst1
  isplitl [Ht2 Ht3 Hdst2]
  · isplitl [Ht2]; · iexact Ht2
    isplitr; · iexact Hr2
    isplitl [Ht3]; · iexact Ht3
    isplitr; · iexact HrT3
    iexact Hdst2
  isplitl [Hc1 Ha1]; · isplitl [Hc1] <;> iassumption
  isplitl [Hc3 Ha3]; · isplitl [Hc3] <;> iassumption
  isplitl [Ha0]; · iexact Ha0
  isplitl [Ha2]; · iexact Ha2
  isplitl [HO]; · iexists _; iexact HO
  iintro Hend
  ihave Hend := (run_elim P R c _ wo fm) $$ Hend
  icases Hend with ⟨Hscr, Hw, Ho, Ha0, Ha1, Ha2, Ha3, HO⟩
  iapply (wp_end c Q)
  imod (close_bar c P R K) $$ [HatB] with Hz
  · isplitr; · iexact Hrec
    iexact HatB
  imod (close_cp c P R K 0 (by decide)) $$ [Ha0] with Hz0
  · isplitr; · iexact Hrec
    iexact Ha0
  imod (close_cp c P R K 1 (by decide)) $$ [Ha1] with Hz1
  · isplitr; · iexact Hrec
    iexact Ha1
  imod (close_cp c P R K 2 (by decide)) $$ [Ha2] with Hz2
  · isplitr; · iexact Hrec
    iexact Ha2
  imod (close_cp c P R K 3 (by decide)) $$ [Ha3] with Hz3
  · isplitr; · iexact Hrec
    iexact Ha3
  imodintro
  iapply Hk
  isplitl [Hz Hz0 Hz1 Hz2 Hz3]
  · unfold zeros
    isplitl [Hz]; · iexact Hz
    isplitl [Hz0]; · iexact Hz0
    isplitl [Hz1]; · iexact Hz1
    isplitl [Hz2]; · iexact Hz2
    iexact Hz3
  isplitl [Hscr]; · iexact Hscr
  isplitl [Hx Hq Hw Hkk Hv]
  · unfold inputs
    isplitl [Hx]; · iexact Hx
    isplitl [Hq]; · iexact Hq
    isplitl [Hw]; · iexact Hw
    isplitl [Hkk]; · iexact Hkk
    iexact Hv
  isplitl [Ho]; · iexact Ho
  iexact HO

end Cert.KernelIdeal.Loops
-- ==== Proof.Ghost.lean ====
/- What is dealt to the devices before the kernel runs: invariants, tokens and credits, and the opening of the copy cells. -/
module

public import proofs.«01_k».proof.Proof.Body
public import Idealize.ShloMosaic.Lib.Rounds.Family

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Talk

variable {F : FTy → Type} [FloatOps F]

local notation "𝕄" => MT nD τ sig Unit (Elt F) ℕ UU ℕ

variable (c : Dev nD) (P : Dev nD → Big F) (R : Dev nD → Small F)

/-! ## Families over the peers -/

/-- The peers numbered from zero. -/
def peerEmb : Fin 15 ↪ ℕ := ⟨fun j => j.val + 1, fun a b h => Fin.ext (Nat.succ.inj h)⟩
/-- The peers' offsets are `1 … 15`, numbered from zero. -/
theorem peers_map : (Finset.univ : Finset (Fin 15)).map peerEmb = peers := by decide

omit [FloatOps F] in
/-- Facts over the peers are facts over fifteen numbers. -/
theorem peers_fin (Φ : ℕ → sProp 𝕄) : bigSep peers Φ = bigSep Finset.univ fun j : Fin 15 => Φ (j.val + 1) := by
  rw [← peers_map, bigSep_map]; rfl

omit [FloatOps F] in
/-- Sixteen entries: entry 0 and the peers'. -/
theorem entries_fin (Φ : ℕ → sProp 𝕄) : (bigSep Finset.univ fun j : Fin 16 => Φ j.val) = iprop(Φ 0 ∗ bigSep peers Φ) := by
  have h : (Finset.univ : Finset (Fin 16)).map ⟨fun j => j.val, Fin.val_injective⟩ = insert 0 peers := by decide
  have e : (bigSep ((Finset.univ : Finset (Fin 16)).map ⟨fun j => j.val, Fin.val_injective⟩) Φ : sProp 𝕄) = bigSep Finset.univ fun j : Fin 16 => Φ j.val := bigSep_map _
  rw [← e, h, BI.bigSep_insert (by decide)]; rfl

omit [FloatOps F] in
/-- Facts over four numbers, one by one. -/
theorem fin_four (Φ : ℕ → sProp 𝕄) : (bigSep Finset.univ fun a : Fin 4 => Φ a.val) = iprop(Φ 0 ∗ Φ 1 ∗ Φ 2 ∗ Φ 3) := by
  rw [show (Finset.univ : Finset (Fin 4)) = {0, 1, 2, 3} from by decide, BI.bigSep_insert (by decide), BI.bigSep_insert (by decide), BI.bigSep_insert (by decide), bigSep_singleton]
  rfl

omit [FloatOps F] in
/-- A double family read the other way round. -/
theorem flip_family {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty =>
    simp only [BI.bigSep_empty]
    exact (BI.bigSep_emp_const _).symm
  | insert i s hi ih =>
    rw [BI.bigSep_insert hi, ih]
    have h : (bigSep t fun j => bigSep (insert i s) fun i => Φ i j) = bigSep t fun j => iprop(Φ i j ∗ bigSep s fun i => Φ i j) :=
      bigSep_congr fun j _ => BI.bigSep_insert hi
    rw [h, bigSep_sep']
    rfl

omit [FloatOps F] in
/-- A family over the copy cells in use, dealt to the cells' devices. -/
theorem deal (Φ : ℕ → ℕ → Dev nD → sProp 𝕄) :
    (bigSep (Finset.univ : Finset (Fin 4 × Fin 15 × Dev nD)) fun x => Φ x.1.val (x.2.1.val + 1) x.2.2)
      = iprop((bigSep Finset.univ fun c => bigSep peers fun d => Φ 0 d c) ∗ (bigSep Finset.univ fun c => bigSep peers fun d => Φ 1 d c)
        ∗ (bigSep Finset.univ fun c => bigSep peers fun d => Φ 2 d c) ∗ (bigSep Finset.univ fun c => bigSep peers fun d => Φ 3 d c)) := by
  rw [bigSep_univ_prod]
  have h (a : Fin 4) : (bigSep (Finset.univ : Finset (Fin 15 × Dev nD)) fun y => Φ a.val (y.1.val + 1) y.2)
      = (fun a : ℕ => (bigSep (Finset.univ : Finset (Dev nD)) fun c => bigSep peers fun d => Φ a d c)) a.val := by
    rw [bigSep_univ_prod, flip_family]
    exact bigSep_congr fun c _ => (peers_fin fun d => Φ a.val d c).symm
  rw [← fin_four fun a => (bigSep (Finset.univ : Finset (Dev nD)) fun c => bigSep peers fun d => Φ a d c)]
  exact bigSep_congr fun a _ => h a

/-- Going `d` places on, and back. -/
def turn (d : ℕ) (hd : d ≤ 16) : Dev nD ≃ Dev nD where
  toFun c := tgt c d
  invFun c := tgt c (16 - d)
  left_inv c := tgt_back c d hd
  right_inv c := tgt_fwd c d hd

omit [FloatOps F] in
/-- What every device has for its peer `d`, handed to that peer. -/
theorem around (Φ : ℕ → Dev nD → sProp 𝕄) :
    (bigSep Finset.univ fun c => bigSep peers fun d => Φ d c) = bigSep Finset.univ fun c => bigSep peers fun d => Φ d (tgt c d) := by
  rw [flip_family, flip_family (Finset.univ : Finset (Dev nD))]
  exact bigSep_congr fun d hd => bigSep_univ_equiv (turn d (by have := Finset.mem_Ico.mp hd; omega)) (Φ d)

/-- The same, the duties counted from the other end. -/
theorem around_flip (Φ : ℕ → Dev nD → sProp 𝕄) :
    (bigSep Finset.univ fun c => bigSep peers fun d => Φ d c) = bigSep Finset.univ fun c => bigSep peers fun d => Φ (16 - d) (tgt c d) := by
  rw [← around fun d c => Φ (16 - d) c]
  exact bigSep_congr fun c _ => peers_flip fun d => Φ d c

/-! ## What each device is dealt -/

/-- The rights to open the copy cells of array `a`. -/
abbrev opens (a : ℕ) : sProp 𝕄 := bigSep peers fun d => openTok ER (cpCell a d c)

/-- What device `c` is dealt: its barrier position, the tokens of the duties it pays, the rights to open its copy cells. -/
def dealt : sProp 𝕄 :=
  iprop(atPos ER (barCell c) 0 ∅ 0 ∗ toksB c ∗ toks c 0 ∗ toksT c 1 ∗ toks c 2 ∗ toksT c 3 ∗ opens c 0 ∗ opens c 1 ∗ opens c 2 ∗ opens c 3)

/-- The credits its own cells are waited on with. -/
def credits : sProp 𝕄 := iprop(cred (tallyAt (barCell c) () 15) ∗ crs c 1 ∗ crs c 3)

/-- The kernel's own semaphores: four arrays of sixteen. -/
def osem (k : Fin 4 × Fin 16) : SemLoc sig := .dma (dmaIx k.1.val k.2.val)
/-- The number of an own semaphore. -/
theorem osem_val (k : Fin 4 × Fin 16) : (dmaIx k.1.val k.2.val).val = 6 + 16 * k.1.val + k.2.val := dmaIx_val _ _ k.1.isLt k.2.isLt
/-- Different entries are different semaphores. -/
theorem osem_inj : Function.Injective osem := fun x y h => by
  have h1 : (dmaIx x.1.val x.2.val).val = (dmaIx y.1.val y.2.val).val := congrArg Fin.val (SemLoc.dma.inj h)
  rw [osem_val, osem_val] at h1
  have := x.2.isLt; have := y.2.isLt
  exact Prod.ext (Fin.ext (by omega)) (Fin.ext (by omega))
/-- The semaphores of the operands' transfers have numbers under six. -/
theorem stage_sem (w : Fin 6) (s : Fin (spec0 w).nbuf) : ((spec0 w).sem s).val < 6 := by revert w s; decide
/-- Every copy semaphore belongs to the kernel's run alone. -/
theorem osem_scoped : ∀ s : DmaSem sig, (SemLoc.dma s).isScoped .tc = true := by decide
/-- The four arrays are the kernel's own semaphores: its own alone, distinct, apart from those of the operands' transfers. -/
theorem own_sems : Pipeline.OwnSemFacts spec0 osem where
  isScoped k := osem_scoped _
  inj := osem_inj
  disj k w s h := by
    have h1 : (dmaIx k.1.val k.2.val).val = ((spec0 w).sem s).val := congrArg Fin.val (SemLoc.dma.inj h)
    rw [osem_val] at h1
    have := stage_sem w s; omega

/-- The entries 0, which no copy uses, at zero. -/
def unused : sProp 𝕄 := bigSep Finset.univ fun a : Fin 4 => semVal (cpCell a.val 0 c) 0

/-- The counters of the copy cells of array `a` at zero. -/
abbrev zs (a : ℕ) : sProp 𝕄 := bigSep peers fun d => semVal (cpCell a d c) 0

/-- The own semaphores at zero, by kind: the unused entries 0 and the peers' entries of each array. -/
theorem own_sems_eq : (Pipeline.ownSems0 osem c : sProp 𝕄) = iprop(unused c ∗ zs c 0 ∗ zs c 1 ∗ zs c 2 ∗ zs c 3) := by
  unfold Pipeline.ownSems0 unused
  rw [bigSep_univ_prod]
  have h (a : Fin 4) : (bigSep Finset.univ fun d : Fin 16 => (semVal ((c.tc : Thread nD τ), osem (a, d)) 0 : sProp 𝕄))
      = iprop(semVal (cpCell a.val 0 c) 0 ∗ zs c a.val) := entries_fin fun d => semVal (cpCell a.val d c) 0
  rw [← fin_four fun a => zs c a, ← bigSep_sep']
  exact bigSep_congr fun a _ => h a

variable (K : GSem nD τ sig → ℕ)

/-- The copy cells of one array opened: their positions and rounds. -/
theorem open_cp (a : ℕ) (ha : a < 4) : iprop(recs P R K ∗ opens c a ∗ zs c a) ⊢ |={Set.univ}=> iprop(ats c a 0 ∗ rds c a) := by
  have h : iprop(recs P R K ∗ opens c a) ⊢ bigSep peers fun d => iprop(cellInv ER (talk P R) (K (cpCell a d c)) (cpCell a d c) ∗ openTok ER (cpCell a d c)) := by
    refine bigSep_with_persistent (R := recs P R K) fun d hd => ?_
    have hd := Finset.mem_Ico.mp hd
    exact sep_mono_left (recs_cp P R K a d ha hd.1 hd.2 c)
  iintro ⟨#Hrec, Ho, Hz⟩
  imod (Rounds.cells_open ER (talk P R) peers (fun d => cpCell a d c) (fun d => K (cpCell a d c)) (Es := Set.univ) (fun _ _ => Set.mem_univ _)) $$ [Ho Hz] with H
  · isplitl [Ho]
    · iapply h
      isplitr; · iexact Hrec
      iexact Ho
    iexact Hz
  imodintro
  ihave H := (Entails.of_eq (bigSep_sep' peers (fun d => atPos ER (cpCell a d c) 0 ∅ 0) (fun d => reached ER (cpCell a d c) 0))) $$ H
  icases H with ⟨H1, H2⟩
  isplitl [H1]; · iexact H1
  iexact H2

/-- The copy cells opened: everything the device starts its run with. -/
theorem open_all : iprop(recs P R K ∗ (dealt c ∗ credits c) ∗ Pipeline.ownSems0 osem c) ⊢ |={Set.univ}=> iprop(talkPre c ∗ unused c) := by
  rw [own_sems_eq]
  unfold dealt credits talkPre
  iintro ⟨#Hrec, ⟨⟨HatB, HtB, Ht0, Ht1, Ht2, Ht3, Ho0, Ho1, Ho2, Ho3⟩, HcB, Hc1, Hc3⟩, Hu, Hz0, Hz1, Hz2, Hz3⟩
  imod (open_cp c P R K 0 (by decide)) $$ [Ho0 Hz0] with ⟨Ha0, Hr0⟩
  · isplitr; · iexact Hrec
    isplitl [Ho0] <;> iassumption
  imod (open_cp c P R K 1 (by decide)) $$ [Ho1 Hz1] with ⟨Ha1, Hr1⟩
  · isplitr; · iexact Hrec
    isplitl [Ho1] <;> iassumption
  imod (open_cp c P R K 2 (by decide)) $$ [Ho2 Hz2] with ⟨Ha2, Hr2⟩
  · isplitr; · iexact Hrec
    isplitl [Ho2] <;> iassumption
  imod (open_cp c P R K 3 (by decide)) $$ [Ho3 Hz3] with ⟨Ha3, Hr3⟩
  · isplitr; · iexact Hrec
    isplitl [Ho3] <;> iassumption
  imodintro
  isplitr [Hu]
  · isplitl [HcB HatB]; · isplitl [HcB] <;> iassumption
    isplitl [HtB]; · iexact HtB
    isplitl [Ht0 Hr0 Ht1]
    · isplitl [Ht0]; · iexact Ht0
      isplitl [Hr0] <;> iassumption
    isplitl [Ht2 Hr2 Ht3]
    · isplitl [Ht2]; · iexact Ht2
      isplitl [Hr2] <;> iassumption
    isplitl [Hc1 Ha1 Hr1]
    · isplitl [Hc1]; · iexact Hc1
      isplitl [Ha1] <;> iassumption
    isplitl [Hc3 Ha3 Hr3]
    · isplitl [Hc3]; · iexact Hc3
      isplitl [Ha3] <;> iassumption
    isplitl [Ha0] <;> iassumption
  iexact Hu

/-! ## The credits -/

/-- Single credits at one barrier add up. -/
theorem bar_credit : ∀ n d : ℕ, d + n = 16 → (bigSep (Finset.Ico d 16) fun _ => (cred (tallyAt (barCell c) () 1) : sProp 𝕄)) ⊢ cred (tallyAt (barCell c) () n)
  | 0, d, h => by
    obtain rfl : d = 16 := by omega
    rw [peel_done, show (tallyAt (barCell c) () 0 : CellTallies nD τ sig Unit) = 0 from tallyAt_zero _ _, cred_zero]
  | n + 1, d, h => by
    rw [peel d (by omega), Nat.add_comm n 1, ← tallyAt_add]
    iintro ⟨H1, H⟩
    ihave H' := (bar_credit n (d + 1) (by omega)) $$ H
    iapply (cred_add _ _).2
    isplitl [H1] <;> iassumption

/-- What a device is credited at launch: fifteen units at its barrier, and its receive cells. -/
theorem credits_intro : (Pipeline.launchCred O₀ c : sProp 𝕄) ⊢ credits c := by
  have hb : (Pipeline.launchCred (fun d => oweB d 1) c : sProp 𝕄) ⊢ cred (tallyAt (barCell c) () 15) := by
    unfold oweB
    rw [Pipeline.launchCred_sum]
    have h : (bigSep (Finset.Ico 1 16) fun e => (Pipeline.launchCred (fun d => tallyAt (barCell (tgt d e)) () 1) c : sProp 𝕄))
        ⊢ bigSep (Finset.Ico 1 16) fun _ => cred (tallyAt (barCell c) () 1) := bigSep_mono fun e he => by
      have he := Finset.mem_Ico.mp he
      exact Pipeline.launchCred_tallyAt (.reg barS) (fun d => tgt d e) (fun d => tgt d (16 - e)) (fun d => tgt_fwd d e (by omega)) (fun d => tgt_back d e (by omega)) () 1 c
    exact h.trans (bar_credit c 15 1 rfl)
  have hr (a : ℕ) : (Pipeline.launchCred (fun d => oweR a d 1) c : sProp 𝕄) ⊢ crs c a := by
    unfold oweR
    rw [Pipeline.launchCred_sum]
    exact bigSep_mono fun e he => by
      have he := Finset.mem_Ico.mp he
      exact Pipeline.launchCred_tallyAt (.dma (dmaIx a e)) (fun d => tgt d e) (fun d => tgt d (16 - e)) (fun d => tgt_fwd d e (by omega)) (fun d => tgt_back d e (by omega)) () N c
  unfold O₀ credits
  rw [Pipeline.launchCred_add, Pipeline.launchCred_add]
  iintro ⟨⟨H3, H1⟩, HB⟩
  isplitl [HB]; · iapply hb; iexact HB
  isplitl [H1]; · iapply (hr 1); iexact H1
  iapply (hr 3); iexact H3

/-! ## The cells and tokens made at the start -/

/-- The barrier cells, one per device. -/
def barEmb : Dev nD ↪ GSem nD τ sig := ⟨fun c => barCell c, fun _ _ h => congrArg (fun g : GSem nD τ sig => g.1.1) h⟩
/-- Copy cells of different arrays, entries or devices differ. -/
theorem cp_inj {a a' d d' : ℕ} {c c' : Dev nD} (ha : a < 4) (ha' : a' < 4) (hd : d < 16) (hd' : d' < 16) (h : cpCell a d c = cpCell a' d' c') :
    a = a' ∧ d = d' ∧ c = c' := by
  have h1 : (dmaIx a d).val = (dmaIx a' d').val := congrArg Fin.val (SemLoc.dma.inj (congrArg Prod.snd h))
  rw [dmaIx_val a d ha hd, dmaIx_val a' d' ha' hd'] at h1
  exact ⟨by omega, by omega, congrArg (fun g : GSem nD τ sig => g.1.1) h⟩
/-- The same, with the entries counted from zero. -/
theorem trip_inj {x y : Fin 4 × Fin 15 × Dev nD} (h : cpCell x.1.val (x.2.1.val + 1) x.2.2 = cpCell y.1.val (y.2.1.val + 1) y.2.2) : x = y := by
  have := x.2.1.isLt; have := y.2.1.isLt
  obtain ⟨h1, h2, h3⟩ := cp_inj x.1.isLt y.1.isLt (by omega) (by omega) h
  exact Prod.ext (Fin.ext h1) (Prod.ext (Fin.ext (by omega)) h3)
/-- The copy cells, by array, peer and device. -/
def cpEmb : Fin 4 × Fin 15 × Dev nD ↪ GSem nD τ sig := ⟨fun x => cpCell x.1.val (x.2.1.val + 1) x.2.2, fun _ _ h => trip_inj h⟩

/-- All barrier cells. -/
abbrev barCells : Finset (GSem nD τ sig) := Finset.univ.map barEmb
/-- All copy cells. -/
abbrev cpCells : Finset (GSem nD τ sig) := Finset.univ.map cpEmb

/-- No barrier cell is a copy cell. -/
theorem cells_disjoint : Disjoint barCells cpCells := by
  rw [Finset.disjoint_left]
  rintro g h₁ h₂
  obtain ⟨c, -, rfl⟩ := Finset.mem_map.mp h₁
  obtain ⟨x, -, h⟩ := Finset.mem_map.mp h₂
  have h' : (SemLoc.dma (dmaIx x.1.val (x.2.1.val + 1)) : SemLoc sig) = .reg barS := congrArg (fun g : GSem nD τ sig => g.2) h
  cases h'

/-- The barriers' tokens, one per peer; the copy cells' tokens. -/
def barTok : Dev nD × Fin 15 ↪ GSem nD τ sig × ℕ × ℕ :=
  ⟨fun x => (barCell x.1, 0, x.2.val + 1), fun _ _ h => Prod.ext (congrArg (fun t : GSem nD τ sig × ℕ × ℕ => t.1.1.1) h)
    (Fin.ext (Nat.succ.inj (congrArg (fun t : GSem nD τ sig × ℕ × ℕ => t.2.2) h)))⟩
/-- The token of a copy cell's one duty. -/
def cpTok : Fin 4 × Fin 15 × Dev nD ↪ GSem nD τ sig × ℕ × ℕ :=
  ⟨fun x => (cpEmb x, 0, 0), fun _ _ h => cpEmb.injective (congrArg Prod.fst h)⟩
/-- All barrier tokens. -/
abbrev barToks : Finset (GSem nD τ sig × ℕ × ℕ) := Finset.univ.map barTok
/-- All copy cells' tokens. -/
abbrev cpToks : Finset (GSem nD τ sig × ℕ × ℕ) := Finset.univ.map cpTok
/-- No barrier token is a copy cell's. -/
theorem toks_disjoint : Disjoint barToks cpToks := by
  rw [Finset.disjoint_left]
  rintro g h₁ h₂
  obtain ⟨c, -, rfl⟩ := Finset.mem_map.mp h₁
  obtain ⟨x, -, h⟩ := Finset.mem_map.mp h₂
  have h' : (SemLoc.dma (dmaIx x.1.val (x.2.1.val + 1)) : SemLoc sig) = .reg barS := congrArg (fun t : GSem nD τ sig × ℕ × ℕ => t.1.2) h
  cases h'

/-- All tokens dealt out: to each device those of the duties that it pays. -/
theorem toks_deal : (bigSep (barToks ∪ cpToks) fun x => (dutyTok ER x.1 x.2.1 x.2.2 : sProp 𝕄))
    = iprop((bigSep Finset.univ fun c => bigSep peers fun d => dutyTok ER (barCell (tgt c d)) 0 (16 - d))
      ∗ (bigSep Finset.univ fun c => toks c 0) ∗ (bigSep Finset.univ fun c => toksT c 1) ∗ (bigSep Finset.univ fun c => toks c 2)
      ∗ (bigSep Finset.univ fun c => toksT c 3)) := by
  rw [BI.bigSep_union toks_disjoint, bigSep_map, bigSep_map]
  have h1 : (bigSep Finset.univ fun x : Dev nD × Fin 15 => (dutyTok ER (barTok x).1 (barTok x).2.1 (barTok x).2.2 : sProp 𝕄))
      = bigSep Finset.univ fun c => bigSep peers fun d => dutyTok ER (barCell (tgt c d)) 0 (16 - d) := by
    rw [bigSep_univ_prod, ← around_flip fun d c => dutyTok ER (barCell c) 0 d]
    exact bigSep_congr fun c _ => (peers_fin fun d => dutyTok ER (barCell c) 0 d).symm
  have h2 := deal (F := F) fun a d c => dutyTok ER (cpCell a d c) 0 0
  rw [around (fun d c => dutyTok ER (cpCell 1 d c) 0 0), around (fun d c => dutyTok ER (cpCell 3 d c) 0 0)] at h2
  exact (congrArg₂ (fun a b => iprop(a ∗ b)) h1 h2)

end Cert.KernelIdeal.Loops
-- ==== Proof.Region.lean ====
/- The kernel's region: what its windows hold, its body against the whole-body law, and the region as a segment of the program. -/
module

public import proofs.«01_k».proof.Proof.Ghost

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen Cert.KernelIdeal.Talk

variable {F : FTy → Type} [FloatOps F]

local notation "𝕄" => MT nD τ sig Unit (Elt F) ℕ UU ℕ

variable (m : (ℓ : Loc nD τ sig) → Buf (Elt F) ℓ)

/-! ## The contents -/

/-- What device `c`'s kernel reads, from the memory at launch. -/
def xIn (c : Dev nD) : Big F := V1 m c main_v19
/-- The query weights the kernel finds on device `c`. -/
def qIn (c : Dev nD) : Mat F := V1 m c main_arg1
/-- The output weights it finds. -/
def oIn (c : Dev nD) : Mat F := V1 m c main_arg2
/-- The keys of the device's heads. -/
def kIn (c : Dev nD) : Kv F := V1 m c main_v16
/-- The values of the device's heads. -/
def vIn (c : Dev nD) : Kv F := V1 m c main_v18

/-- Device `c`'s partial result. -/
def PP (c : Dev nD) : Big F := partF (xIn m c) (qIn m c) (oIn m c) (kIn m c) (vIn m c)
/-- Device `c`'s reduced rows. -/
def RR (c : Dev nD) : Small F := redF (PP m) c
/-- What the kernel's region leaves in its result: every device's reduced rows. -/
def outs : Outs (F := F) := fun _ r c => if h : r = main_v20 then h ▸ (outF (RR m) : Big F) else V1 m c r

/-- The region leaves the reduced rows of every device in every device's result. -/
theorem outs_at (c : Dev nD) : outs m 2 main_v20 c = outF (RR m) := dif_pos rfl

/-! ## A window is its whole array -/

omit [FloatOps F] in
/-- The window of `x` is the whole array. -/
theorem blk_emb0 (i : S256x512.Idx) : (win0_0.blk t0_0).view.emb i = i :=
  funext fun k => Fin.ext (show 0 * _ + 1 * (i k).val = (i k).val by omega)
omit [FloatOps F] in
/-- The window of the query weights is the whole array. -/
theorem blk_emb1 (i : S512x512.Idx) : (win0_1.blk t0_0).view.emb i = i :=
  funext fun k => Fin.ext (show 0 * _ + 1 * (i k).val = (i k).val by omega)
omit [FloatOps F] in
/-- The window of the output weights is the whole array. -/
theorem blk_emb2 (i : S512x512.Idx) : (win0_2.blk t0_0).view.emb i = i :=
  funext fun k => Fin.ext (show 0 * _ + 1 * (i k).val = (i k).val by omega)
omit [FloatOps F] in
/-- The window of the keys is the whole array. -/
theorem blk_emb3 (i : S16x128x64.Idx) : (win0_3.blk t0_0).view.emb i = i :=
  funext fun k => Fin.ext (show 0 * _ + 1 * (i k).val = (i k).val by omega)
omit [FloatOps F] in
/-- The window of the values is the whole array. -/
theorem blk_emb4 (i : S16x128x64.Idx) : (win0_4.blk t0_0).view.emb i = i :=
  funext fun k => Fin.ext (show 0 * _ + 1 * (i k).val = (i k).val by omega)
omit [FloatOps F] in
/-- The window of the result is the whole array. -/
theorem blk_emb5 (i : S256x512.Idx) : (win0_5.blk t0_0).view.emb i = i :=
  funext fun k => Fin.ext (show 0 * _ + 1 * (i k).val = (i k).val by omega)

/-! ## The region's data -/

/-- Before the kernel body: its ghost state opened, its scratch, its generator register. -/
def Xk (c : Dev nD) : sProp 𝕄 := iprop((∃ K, recs (PP m) (RR m) K) ∗ (talkPre c ∗ unused c) ∗ levAts L lv)
/-- All that the kernel body starts from. -/
def Φ₀ (c : Dev nD) : sProp 𝕄 := iprop(Xk m c ∗ scratch c ∗ ∃ r, prngReg c r)
/-- After it: every counter back at zero. -/
def Φ₁ (c : Dev nD) : sProp 𝕄 := iprop(zeros c ∗ unused c ∗ scratch c ∗ ∃ r, prngReg c r)

/-- What the windows hold: the five operands as found, the result as the kernel leaves it; the owed units are paid by the body. -/
def dat (c : Dev nD) : Dat τ (Elt F) Unit ℕ UU ℕ cfg0 c where
  A w := V1 m c (Proc.devRef .tc (Pipeline.arrRef spec0 w))
  after w _ := match w with
    | ⟨0, _⟩ => xIn m c
    | ⟨1, _⟩ => qIn m c
    | ⟨2, _⟩ => oIn m c
    | ⟨3, _⟩ => kIn m c
    | ⟨4, _⟩ => vIn m c
    | ⟨5, _⟩ => (outF (RR m) : Big F)
  Φ t := if t.val = 0 then Φ₀ m c else Φ₁ c
  q _ := fullShare
  owed t := if t.val = 0 then O₀ c else 0

/-- At the start a device owes what it owes at launch, -/
theorem owed_zero (c : Dev nD) : (dat (F := F) m c).owed 0 = O₀ c := by
  show (if ((0 : Fin (cfg0.N + 1)).val = 0) then O₀ c else 0) = O₀ c; exact if_pos rfl
/-- so it does before the one step, -/
theorem owed_first (c : Dev nD) : (dat (F := F) m c).owed t0_0.castSucc = O₀ c := by
  show (if (t0_0.castSucc : Fin (cfg0.N + 1)).val = 0 then O₀ c else 0) = O₀ c; exact if_pos rfl
/-- at the end it owes nothing, -/
theorem owed_last (c : Dev nD) : (dat (F := F) m c).owed (Fin.last _) = 0 := by
  show (if (Fin.last cfg0.N).val = 0 then O₀ c else 0) = 0
  rw [Fin.val_last, if_neg (by rw [show cfg0.N = 1 from N_0]; decide)]
/-- and nothing after the one step. -/
theorem owed_after (c : Dev nD) : (dat (F := F) m c).owed t0_0.succ = 0 := by
  show (if (t0_0.succ : Fin (cfg0.N + 1)).val = 0 then O₀ c else 0) = 0; exact if_neg (Nat.succ_ne_zero _)

/-- What is owed, in the form that the step takes. -/
theorem owesAt_intro (c : Dev nD) (t : Fin (cfg0.N + 1)) (O : CellTallies nD τ sig Unit) (h0 : (dat m c).owed t = O) :
    owing c O ⊢ ((dat m c).owesAt () t : sProp 𝕄) := by
  unfold owing Dat.owesAt Pipeline.owesWithin Dat.bound; rw [h0]
  iintro ⟨%W, HO⟩; iexists W; isplitr; · ipureintro; exact fun _ _ => Or.inl trivial
  iexact HO
/-- What is owed, in the form that the body takes. -/
theorem owesAt_elim (c : Dev nD) (t : Fin (cfg0.N + 1)) (O : CellTallies nD τ sig Unit) (h0 : (dat m c).owed t = O) :
    ((dat m c).owesAt () t : sProp 𝕄) ⊢ owing c O := by
  unfold owing Dat.owesAt Pipeline.owesWithin; rw [h0]
  iintro ⟨%W, -, HO⟩; iexists W; iexact HO

/-- The body finds `x`, -/
theorem before0 (c : Dev nD) (d) : (dat m c).before 0 t0_0 d = xIn m c := by
  unfold Dat.before; rw [if_pos (fetch0_0 t0_0)]
  exact funext fun i => congrArg (xIn m c) (blk_emb0 i)
/-- the query weights, -/
theorem before1 (c : Dev nD) (d) : (dat m c).before 1 t0_0 d = qIn m c := by
  unfold Dat.before; rw [if_pos (fetch0_1 t0_0)]
  exact funext fun i => congrArg (qIn m c) (blk_emb1 i)
/-- the output weights, -/
theorem before2 (c : Dev nD) (d) : (dat m c).before 2 t0_0 d = oIn m c := by
  unfold Dat.before; rw [if_pos (fetch0_2 t0_0)]
  exact funext fun i => congrArg (oIn m c) (blk_emb2 i)
/-- the keys -/
theorem before3 (c : Dev nD) (d) : (dat m c).before 3 t0_0 d = kIn m c := by
  unfold Dat.before; rw [if_pos (fetch0_3 t0_0)]
  exact funext fun i => congrArg (kIn m c) (blk_emb3 i)
/-- and the values, each as its array holds it. -/
theorem before4 (c : Dev nD) (d) : (dat m c).before 4 t0_0 d = vIn m c := by
  unfold Dat.before; rw [if_pos (fetch0_4 t0_0)]
  exact funext fun i => congrArg (vIn m c) (blk_emb4 i)

/-- The kernel body carries its windows and the protocol from before to after. -/
theorem body_ok (c : Dev nD) : BodyObligation (dat m c) defs₀ 𝒱₀ () Set.univ := fun t => by
  obtain rfl := fin_N0 t
  rw [bigSep_W0, bigSep_W0]
  simp only [before0, before1, before2, before3, before4, owns_whole]
  have hΦ0 : (dat m c).Φ t0_0.castSucc = Φ₀ m c := rfl
  have hΦ1 : (dat m c).Φ t0_0.succ = Φ₁ c := rfl
  have ha0 : (dat m c).after 0 t0_0 = xIn m c := rfl
  have ha1 : (dat m c).after 1 t0_0 = qIn m c := rfl
  have ha2 : (dat m c).after 2 t0_0 = oIn m c := rfl
  have ha3 : (dat m c).after 3 t0_0 = kIn m c := rfl
  have ha4 : (dat m c).after 4 t0_0 = vIn m c := rfl
  have ha5 : (dat m c).after 5 t0_0 = outF (RR m) := rfl
  have hb : defs₀ (F := F) Proc.tc 0 (t0_0, cfg0.slots t0_0) = bodyAt0 (F := F) t0_0 := rfl
  rw [hΦ0, hΦ1, ha0, ha1, ha2, ha3, ha4, ha5, hb, bodyAt_eq]
  unfold Φ₀ Φ₁ Xk
  iintro ⟨⟨⟨⟨%K, HR⟩, ⟨HT, HU⟩, HL⟩, HS, HP⟩, HO, ⟨%_, Hx⟩, ⟨%_, Hq⟩, ⟨%_, Ho⟩, ⟨%_, Hk⟩, ⟨%_, Hv⟩, ⟨%d, Hout⟩⟩
  ihave HO' := (owesAt_elim m c _ (O₀ c) (owed_first m c)) $$ HO
  iapply (wp_looped (PP m) (RR m) K c (xIn m c) (qIn m c) (oIn m c) (kIn m c) (vIn m c) rfl rfl _ _)
  unfold inputs
  isplitl [HR]; · iexact HR
  isplitl [HL]; · iexact HL
  isplitl [HT]; · iexact HT
  isplitl [HS]; · iexact HS
  isplitl [Hx Hq Ho Hk Hv]
  · isplitl [Hx]; · iexact Hx
    isplitl [Hq]; · iexact Hq
    isplitl [Ho]; · iexact Ho
    isplitl [Hk] <;> iassumption
  isplitl [Hout]; · iexact Hout
  isplitl [HO']; · iexact HO'
  iintro ⟨HZ, HS, ⟨Hx, Hq, Ho, Hk, Hv⟩, Hout, HO⟩
  isplitl [HZ HU HS HP]
  · isplitl [HZ]; · iexact HZ
    isplitl [HU]; · iexact HU
    isplitl [HS] <;> iassumption
  isplitl [HO]; · iapply (owesAt_intro m c t0_0.succ 0 (owed_after m c)); iexact HO
  isplitl [Hx]; · iexact Hx
  isplitl [Hq]; · iexact Hq
  isplitl [Ho]; · iexact Ho
  isplitl [Hk]; · iexact Hk
  isplitl [Hv] <;> iassumption

end Cert.KernelIdeal.Loops

end
-- ==== Proof.Run.lean ====
/- The whole program's run: the region as a segment, the dealing at the start, and what every execution ends with. -/
module

public import proofs.«01_k».proof.Proof.Region
public import Idealize.ShloMosaic.Lib.Pipeline.RegionTalk

@[expose] public section

noncomputable section

namespace Cert.KernelIdeal.Loops

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)
open Cert.KernelIdeal.Gen Cert.KernelIdeal.Talk

variable {F : FTy → Type} [FloatOps F]

local notation "𝕄" => MT nD τ sig Unit (Elt F) ℕ UU ℕ

variable (m : (ℓ : Loc nD τ sig) → Buf (Elt F) ℓ)

/-- The data of the program's only region. -/
abbrev pdats : (p : Fin 1) → (c : Dev nD) → Dat τ (Elt F) Unit ℕ UU ℕ (cfgs p) c := fun _ c => dat m c

/-! ## The region as a segment -/

/-- What the launch leaves a device for its kernel. -/
def Tk (c : Dev nD) : sProp 𝕄 := iprop((∃ K, recs (PP m) (RR m) K) ∗ dealt c ∗ credits c)
/-- What the kernel leaves besides its arrays: the barrier's counter at zero. -/
def Yk (c : Dev nD) : sProp 𝕄 := semVal (barCell c) 0

/-- What the launch left is opened into what the kernel starts from. -/
theorem hopen (c : Dev nD) : iprop(Tk m c ∗ Pipeline.ownSems0 osem c ∗ levAts L lv) ⊢ (|={Set.univ}=> Xk m c : sProp 𝕄) := by
  unfold Tk Xk
  iintro ⟨⟨⟨%K, #HR⟩, Hd, Hc⟩, Hs, #Hlev⟩
  imod (open_all c (PP m) (RR m) K) $$ [Hd Hc Hs] with H
  · isplitr; · iexact HR
    isplitr [Hs]
    · isplitl [Hd] <;> iassumption
    iexact Hs
  imodintro
  isplitr; · iexists K; iexact HR
  isplitl [H]; · iexact H
  iexact Hlev

/-- Holding no array is holding nothing. -/
theorem held_none (c : Dev nD) (W : Valuation τ sig (Elt F)) : (StableHlo.held (c.tc : Thread nD τ) ∅ W : sProp 𝕄) = BI.emp := by
  unfold StableHlo.held; exact BI.bigSep_empty

/-- The region's entry gives the body its start. -/
theorem hin (c : Dev nD) : iprop(Pipeline.scopedRest (Pipeline.pin (pcfgs (F := F)) adm 0).spec c ∗ (∃ r, prngReg c r)
      ∗ StableHlo.held (c.tc : Thread nD τ) ∅ (V1 m c) ∗ Xk m c)
    ⊢ (pdats m 0 c).Φ 0 := by
  rw [show (pdats m 0 c).Φ 0 = Φ₀ m c from rfl, held_none]
  have h : (Pipeline.scopedRest (Pipeline.pin (pcfgs (F := F)) adm 0).spec c : sProp 𝕄) ⊢ scratch c := Entails.of_eq (scopedRest0_eq c)
  unfold Φ₀
  iintro ⟨Hs, Hp, -, HX⟩
  isplitl [HX]; · iexact HX
  isplitl [Hs]; · iapply h; iexact Hs
  iexact Hp

/-- After the one step the body's end holds. -/
theorem phi_last (c : Dev nD) : (pdats m 0 c).Φ (Fin.last (Pipeline.pin (pcfgs (F := F)) adm 0).N) = Φ₁ c := by
  show (if (Fin.last cfg0.N).val = 0 then Φ₀ m c else Φ₁ c) = Φ₁ c
  rw [Fin.val_last, if_neg (by rw [show cfg0.N = 1 from N_0]; decide)]

/-- The body's end gives what the region's exit asks for. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ Yk c) := by
  rw [phi_last, held_none, own_sems_eq]
  have e : (Pipeline.scopedRest (Pipeline.pin (pcfgs (F := F)) adm 0).spec c : sProp 𝕄) = scratch c := scopedRest0_eq c
  rw [e]
  unfold Φ₁ Yk zeros
  iintro ⟨⟨Hb, H0, H1, H2, H3⟩, HU, Hs, Hp⟩
  isplitl [Hs]; · iexact Hs
  isplitl [Hp]; · iexact Hp
  isplitr; · iempintro
  isplitr [Hb]
  · isplitl [HU]; · iexact HU
    isplitl [H0]; · iexact H0
    isplitl [H1]; · iexact H1
    isplitl [H2] <;> iassumption
  iexact Hb

/-- The region's static facts: windows, slots and semaphores. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Everything a device owes lies above level 0. -/
theorem cut_owed (c : Dev nD) (t : Fin (cfg0.N + 1)) (g : GSem nD τ sig) (i : Unit) (h : 0 < (dat (F := F) m c).owed t g i) : i ∈ L g ∧ (0 : ℕ) < lv g i := by
  have e : (dat (F := F) m c).owed t = if t.val = 0 then O₀ c else 0 := rfl
  rw [e] at h
  split at h
  · obtain ⟨h1, h2⟩ := O₀_pos c g i h
    exact ⟨by unfold L; rw [if_pos h1]; exact Finset.mem_singleton_self _, h2⟩
  · exact absurd h (Nat.lt_irrefl 0)

/-- The semaphores of the operands' transfers are at level 0. -/
theorem lv_stage (c : Dev nD) (w : Fin 6) (s : Fin (spec0 w).nbuf) : lv ((c : Thread nD τ), .dma ((spec0 w).sem s)) () ≤ 0 := by
  have := stage_sem w s
  show (if _ then _ else if _ then _ else _) ≤ 0
  rw [if_neg (by omega), if_neg (by omega)]

/-- The result's array after the write-back: what the body left. -/
theorem arr_out (c : Dev nD) : (dat m c).arrAt 5 (cfg0.N) = (outF (RR m) : Big F) := by
  have h := (dat m c).arrAt_succ 5 t0_0
  rw [if_pos (flush0_5 t0_0)] at h
  refine h.trans (funext fun i => ?_)
  have h5 := View.write_emb_of_mem (Val := Elt F) (v := (win0_5.blk t0_0).view) ((dat m c).arrAt 5 t0_0) ((dat m c).flushed 5 t0_0) (Finset.mem_univ i)
  rw [blk_emb5] at h5
  exact h5

/-- The arrays that the region does not touch. -/
def rest : Finset (DevRef τ sig) := Pipeline.ucRefs τ sig \ Pipeline.arrRefs (τ := τ) spec0

/-- The region's arrays are among the program's. -/
theorem arr_sub : Pipeline.arrRefs (τ := τ) spec0 ⊆ Pipeline.ucRefs τ sig := Pipeline.arrRefs_sub_ucRefs spec0 (by decide)

/-- The result is one of the region's arrays. -/
theorem out_mem : Proc.devRef (τ := τ) .tc main_v20 ∈ Pipeline.arrRefs (τ := τ) spec0 :=
  Finset.mem_map.mpr ⟨main_v20, Finset.mem_image.mpr ⟨5, Finset.mem_univ _, rfl⟩, rfl⟩

/-- The region changes no other array. -/
theorem V2_off (c : Dev nD) (b : DevRef τ sig) (hb : b ∈ rest \ ∅) : V2 m (outs m) c b = V1 m c b :=
  Function.update_of_ne (fun (h : b = Proc.devRef .tc main_v20) => (Finset.mem_sdiff.mp (Finset.mem_sdiff.mp hb).1).2 (by rw [h]; exact out_mem)) _ _

/-- The region leaves each operand as it was. -/
theorem arr_in (c : Dev nD) (w : Fin 6) (h : (cfg0.win w).isOut = false) (hr : Pipeline.arrRef spec0 w ∉ ([main_v20] : List (Ref sig .tc))) :
    (dat m c).arrAt w (cfg0.N) = V2 m (outs m) c (Proc.devRef .tc (Pipeline.arrRef spec0 w)) := by
  rw [(dat m c).arrAt_in w h]; exact (V2_of m (outs m) c _ hr).symm

/-- What the region leaves in each of its arrays. -/
theorem arr_end (c : Dev nD) (w : Fin 6) : (dat m c).arrAt w (cfg0.N) = V2 m (outs m) c (Proc.devRef .tc (Pipeline.arrRef spec0 w)) := by
  match w with
  | ⟨0, _⟩ => exact arr_in m c 0 rfl (by decide)
  | ⟨1, _⟩ => exact arr_in m c 1 rfl (by decide)
  | ⟨2, _⟩ => exact arr_in m c 2 rfl (by decide)
  | ⟨3, _⟩ => exact arr_in m c 3 rfl (by decide)
  | ⟨4, _⟩ => exact arr_in m c 4 rfl (by decide)
  | ⟨5, _⟩ =>
    have h : V2 m (outs m) c (Proc.devRef .tc main_v20) = outs m 2 main_v20 c := Function.update_self ..
    exact (arr_out m c).trans ((outs_at m c).symm.trans h.symm)

set_option backward.isDefEq.respectTransparency.types false in
/-- The kernel's region, entered from what the launch left and left with every barrier back at zero. -/
def reg : Pipeline.RegionSeg (pcfgs (F := F)) adm (pdats m) () defs₀ 𝒱₀ L lv 0 :=
  Pipeline.RegionSeg.ofTalk (pcfgs (F := F)) adm (pdats m) () defs₀ 𝒱₀ L lv 0 osem own_sems
    ∅ rest (Finset.empty_subset _) kitP rfl (fun c => (body_ok m c).loose)
    (fun _ => 0) O₀ (fun c => (owed_zero m c).trans (zero_add _).symm) (owed_last m) (fun _ => rfl)
    (fun c w => by unfold Dat.share; split <;> rfl)
    (V1 m) (V2 m (outs m)) (V2_off m)
    (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => cut_owed m c t g i h⟩
    (fun _ => iprop(emp))
    (fun _ _ => rfl) (arr_end m)

/-! ## The states between the items -/

/-- What rides beside the buffers: before the region the kernel's share of the launch, after it the barrier at zero. -/
def E : Fin 2 → Dev nD → sProp 𝕄
  | 0, c => iprop(Tk m c ∗ (∃ r, prngReg c r) ∗ ∃ W, owes (c : Thread nD τ) (O₀ c) W)
  | 1, c => iprop(semVal (barCell c) 0 ∗ ∃ W, owes (c : Thread nD τ) (0 : CellTallies nD τ sig Unit) W)

/-- What the host code leaves is what the region starts from. -/
theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + O₀ c) Wd)
  rw [zero_add, StableHlo.held_sub_split (c.tc : Thread nD τ) arr_sub (V1 m c)]
  unfold E rest
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What the region leaves is what the host code goes on from. -/
theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ Yk c ∗ ∃ Wd, owes (c : Thread nD τ) (0 : CellTallies nD τ sig Unit) Wd) ⊢ _
  rw [StableHlo.held_sub_split (c.tc : Thread nD τ) arr_sub (V2 m (outs m) c)]
  unfold E rest Yk
  iintro ⟨Ha, -, ⟨Hr, -⟩, Hb, HO⟩
  isplitl [Ha Hr]
  · isplitl [Ha] <;> iassumption
  isplitl [Hb] <;> iassumption

/-! ## The start -/

/-- The protocol's ghost state, all of it on device 0 at first. -/
def G (c : Dev nD) : sProp 𝕄 := if c = 0 then BI.own (ER (launchOf barCells cpCells (barToks ∪ cpToks))) else iprop(emp)
omit [FloatOps F] in
/-- The devices' shares of the launch's ghost state together are all of it. -/
theorem G_all : (bigSep Finset.univ G : sProp 𝕄) = BI.own (ER (launchOf barCells cpCells (barToks ∪ cpToks))) := by
  have h : (bigSep (Finset.univ.erase (0 : Dev nD)) G : sProp 𝕄) = bigSep (Finset.univ.erase (0 : Dev nD)) fun _ => (BI.emp : sProp 𝕄) :=
    bigSep_congr fun c hc => if_neg (Finset.ne_of_mem_erase hc)
  rw [bigSep_univ_at _ (0 : Dev nD), h, BI.bigSep_emp_const, show (G 0 : sProp 𝕄) = BI.own (ER (launchOf barCells cpCells (barToks ∪ cpToks))) from if_pos rfl]
  exact BI.equiv_iff.mp sep_emp

/-- The ghost state at launch: the operands' transfers and the conversation. -/
def u₀ : UU := (initOf (Pipeline.cells cfgs cellOf_inj) (Pipeline.launchToks cfgs cellOf_inj), launchOf barCells cpCells (barToks ∪ cpToks))

/-- The barrier is the only semaphore that outlives the kernel. -/
theorem unscoped_eq : ∀ sm : SemLoc sig, sm.isScoped .tc = false → sm = .reg barS := by decide

omit [FloatOps F] in
/-- So a device's semaphores at the start are its barrier at zero. -/
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

omit [FloatOps F] in
/-- The barriers' tokens with round 0 of each barrier reached. -/
theorem toksB_intro : iprop((bigSep barCells fun g => reached ER g 0) ∗ bigSep Finset.univ fun c : Dev nD => bigSep peers fun d => dutyTok ER (barCell (tgt c d)) 0 (16 - d))
    ⊢ (bigSep Finset.univ fun c : Dev nD => toksB c : sProp 𝕄) := by
  unfold toksB
  have hr (c : Dev nD) : (bigSep barCells fun g => (reached ER g 0 : sProp 𝕄)) ⊢ reached ER (barCell c) 0 :=
    bigSep_elim (Finset.mem_map_of_mem barEmb (Finset.mem_univ c))
  refine bigSep_with_persistent (R := bigSep barCells fun g => (reached ER g 0 : sProp 𝕄)) fun c _ => ?_
  refine bigSep_with_persistent (R := bigSep barCells fun g => (reached ER g 0 : sProp 𝕄)) fun d _ => ?_
  have h := hr (tgt c d)
  iintro ⟨#HR, HT⟩
  isplitl [HT]; · iexact HT
  iapply h; iexact HR

omit [FloatOps F] in
/-- Two families over the devices are one family of pairs. -/
theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)
omit [FloatOps F] in
/-- Two families over the devices are one family of pairs. -/
theorem together {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm

/-- The linear ghost state dealt to every device. -/
theorem dealt_intro :
    iprop((bigSep barCells fun g => reached ER g 0) ∗ (bigSep barCells fun g => atPos ER g 0 ∅ 0) ∗ (bigSep cpCells fun g => openTok ER g)
      ∗ bigSep (barToks ∪ cpToks) fun x => dutyTok ER x.1 x.2.1 x.2.2)
    ⊢ (bigSep Finset.univ fun c : Dev nD => dealt c : sProp 𝕄) := by
  have ho : (bigSep cpCells fun g => (openTok ER g : sProp 𝕄))
      = iprop((bigSep Finset.univ fun c => opens c 0) ∗ (bigSep Finset.univ fun c => opens c 1) ∗ (bigSep Finset.univ fun c => opens c 2) ∗ (bigSep Finset.univ fun c => opens c 3)) :=
    (bigSep_map _).trans (deal fun a d c => openTok ER (cpCell a d c))
  have ha : (bigSep barCells fun g => (atPos ER g 0 ∅ 0 : sProp 𝕄)) = bigSep Finset.univ fun c : Dev nD => atPos ER (barCell c) 0 ∅ 0 := bigSep_map _
  rw [ho, ha, toks_deal]
  unfold dealt
  iintro ⟨#HR, Ha, ⟨Ho0, Ho1, Ho2, Ho3⟩, HtB, Ht0, Ht1, Ht2, Ht3⟩
  iapply together; isplitl [Ha]; · iexact Ha
  iapply together; isplitl [HtB]
  · iapply (toksB_intro (F := F)); isplitr; · iexact HR
    iexact HtB
  iapply together; isplitl [Ht0]; · iexact Ht0
  iapply together; isplitl [Ht1]; · iexact Ht1
  iapply together; isplitl [Ht2]; · iexact Ht2
  iapply together; isplitl [Ht3]; · iexact Ht3
  iapply together; isplitl [Ho0]; · iexact Ho0
  iapply together; isplitl [Ho1]; · iexact Ho1
  iapply together; isplitl [Ho2] <;> iassumption

/-- The cells' invariants as the kernel reads them. -/
theorem recs_intro (κ : GSem nD τ sig → ℕ) : (bigSep (barCells ∪ cpCells) fun g => (cellInv ER (talk (PP m) (RR m)) (κ g) g : sProp 𝕄)) ⊢ recs (PP m) (RR m) κ := by
  rw [BI.bigSep_union cells_disjoint, bigSep_map, bigSep_map]
  exact BI.Entails.refl _

variable (ρ : Dev nD → PrngReg)

/-- What a device has at the start beside the protocol. -/
def bundle (c : Dev nD) : sProp 𝕄 :=
  iprop(StableHlo.held (c : Thread nD τ) (Pipeline.ucRefs τ sig) (V0 m c) ∗ credits c ∗ (∃ r, prngReg c r) ∗ ∃ W, owes (c : Thread nD τ) (O₀ c) W)

/-- What a device's program starts from. -/
abbrev T₀ (c : Dev nD) : sProp 𝕄 := iprop(StableHlo.held (c : Thread nD τ) (Pipeline.ucRefs τ sig) (V0 m c) ∗ E m 0 c)
/-- What it ends with: its arrays after the last host operation and its barrier at zero. -/
abbrev Tₙ (c : Dev nD) : sProp 𝕄 := iprop(StableHlo.held (c : Thread nD τ) (Pipeline.ucRefs τ sig) (V3 m (outs m) c) ∗ semVal (barCell c) 0)

/-- The dealt tokens and a device's bundle are its start. -/
theorem T₀_intro (κ : GSem nD τ sig → ℕ) (c : Dev nD) : iprop(recs (PP m) (RR m) κ ∗ (dealt c ∗ bundle m c)) ⊢ T₀ m c := by
  unfold bundle T₀ E Tk
  iintro ⟨#HR, Hd, Hh, Hc, Hp, HO⟩
  isplitl [Hh]; · iexact Hh
  isplitl [Hd Hc]
  · isplitr; · iexists κ; iexact HR
    isplitl [Hd] <;> iassumption
  isplitl [Hp] <;> iassumption

/-- A device's memory, semaphores, credits and share of the ghost state at launch, put in order. -/
theorem core_init (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (V0 m c) from
    Pipeline.unscopedBufs_held c (V0 m c), unscoped_sems]
  unfold bundle
  iintro ⟨Hh, Hus, HO, Hcr, Hp, HG⟩
  ihave Hc := (credits_intro (F := F) c) $$ Hcr
  isplitl [Hh Hc HO Hp]
  · isplitl [Hh]; · iexact Hh
    isplitl [Hc]; · iexact Hc
    isplitl [Hp]; · iexists (ρ c); iexact Hp
    iexists ∅; iexact HO
  isplitl [Hus] <;> iassumption

/-- Every invariant allocated and everything dealt, from what is there at the start. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => core_init m ρ c) $$ H
  ihave H2 := apart $$ H'; icases H2 with ⟨HB, H3⟩
  ihave H4 := apart $$ H3; icases H4 with ⟨Hv, HG⟩
  ihave Hu := (Entails.of_eq (G_all (F := F))) $$ HG
  imod (Rounds.fund_launch ER (talk (PP m) (RR m)) cells_disjoint (fun g _ h => h) (barToks ∪ cpToks)) $$ [Hv Hu] with ⟨%κ, -, #Hinv, #Hr, Hat, Hopen, Htok⟩
  · isplitl [Hv]
    · iapply hv $$ Hv
    · iexact Hu
  imodintro
  iapply (bigSep_with_persistent (R := recs (PP m) (RR m) κ) (Φ := fun c => iprop(dealt c ∗ bundle m c)) fun c _ => T₀_intro m κ c)
  isplitr; · iapply (recs_intro m κ); iexact Hinv
  iapply together
  isplitr [HB]
  · iapply (dealt_intro (F := F))
    isplitr; · iexact Hr
    isplitl [Hat]; · iexact Hat
    isplitl [Hopen] <;> iassumption
  · iexact HB

/-! ## The run -/

/-- The last host operation's end is the program's: nothing is owed any more. -/
theorem ends (c : Dev nD) : iprop(StableHlo.held (c : Thread nD τ) (Pipeline.ucRefs τ sig) (V3 m (outs m) c) ∗ E m 1 c)
    ⊢ iprop(Tₙ m c ∗ ∃ W, owes (c : Thread nD τ) (0 : CellTallies nD τ sig Unit) W) := by
  unfold E
  iintro ⟨Hh, Hb, HO⟩
  isplitr [HO]
  · isplitl [Hh] <;> iassumption
  · iexact HO

/-- An array that outlives the kernel is among those that are held throughout. -/
theorem uc_mem (r : Ref sig .tc) (h : (Proc.devRef (τ := τ) .tc r).isScoped = false) : Proc.devRef (τ := τ) .tc r ∈ Pipeline.ucRefs τ sig :=
  Finset.mem_filter.mpr ⟨StableHlo.devRef_mem_tcRefs r, by rw [h]; exact Bool.false_ne_true⟩

set_option backward.isDefEq.respectTransparency.types false in
/-- From any memory with zero counters every execution ends with the arguments as found, the result at its value and every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v21) = V3 m (outs m) c main_v21) ∧ r.2.sem = fun _ => 0) := by
  refine Pipeline.θ_run_regions_kit_dev_sems (pcfgs (F := F)) adm (pdats m) () cellOf_inj EP defs₀ 𝒱₀ L lv m ρ main
    (segs m (outs m) 𝒱₀ L lv (E m) () (pdats m) (reg m))
    (fun c Q => by
      rewrite [main_chain c, Seg.run_eq_chain,
        show (segs m (outs m) 𝒱₀ L lv (E m) () (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne G u₀
    (by
      unfold u₀
      iintro Hu
      ihave H := (ownU_pair _ _) $$ Hu
      icases H with ⟨HP, HX⟩
      imodintro
      isplitl [HP]; · iexact HP
      rw [G_all]; iexact HX)
    (T₀ m) (Tₙ m)
    (fun c => ⟨.rfl, reg_pre m c, reg_post m c, ends m c⟩)
    (init m ρ)
    (fun c s => (∀ b ∈ Pipeline.ucRefs τ sig, s.mem (c, b) = V3 m (outs m) c b) ∧ s.sem (barCell c) = 0)
    (fun c s' => ?_) (fun s h hs => ⟨fun c => ?_, sem_eq_zero hs fun c sm hsm => ?_⟩)
  · unfold Tₙ StableHlo.held
    iintro ⟨⟨Hh, Hb⟩, HSI⟩
    icombine HSI Hb gives %hb
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨h, by simpa using hb⟩
    iexact HSI
  · obtain ⟨h, -⟩ := h c
    exact ⟨⟨(h _ (uc_mem main_arg0 rfl)).trans (V3_main_arg0 m (outs m) c), (h _ (uc_mem main_arg1 rfl)).trans (V3_main_arg1 m (outs m) c),
      (h _ (uc_mem main_arg2 rfl)).trans (V3_main_arg2 m (outs m) c), (h _ (uc_mem main_arg3 rfl)).trans (V3_main_arg3 m (outs m) c),
      (h _ (uc_mem main_arg4 rfl)).trans (V3_main_arg4 m (outs m) c)⟩, h _ (uc_mem main_v21 rfl)⟩
  · obtain rfl := unscoped_eq sm hsm
    exact (h c).2

end Cert.KernelIdeal.Loops

end
-- ==== Proof.Inputs.lean ====
/- What the host's operations hand to the kernel, element by element. -/
module

public import proofs.«01_k».proof.Proof.Region
public import Idealize.ShloMosaic.Lib.Pointwise
public import Idealize.ShloMosaic.Lib.StableHlo.ReadAt
public import Idealize.ShloMosaic.Lib.DynamicIndex

@[expose] public section

noncomputable section

namespace Cert.KernelIdeal.Loops

open Idealize.ShloMosaic Idealize.ShloMosaic.TcCoe
open Cert.KernelIdeal.Gen Cert.KernelIdeal.Talk

variable {F : FTy → Type} [FloatOps F] (m : (ℓ : Loc nD τ sig) → Buf (Elt F) ℓ)

set_option maxRecDepth 16384 in
/-- The rows of `x`, the batches one below the other. -/
theorem xIn_eq (c : Dev nD) : xIn m c = shapeCast S256x512 (m ((c : Thread nD τ).loc main_arg0) : FVec F S2x128x512 .f32) shapeCasts_S2x128x512_S256x512 := by
  unfold xIn
  after_reads_simp
  rfl

/-- A device's heads lie inside the whole heads. -/
theorem own_heads (c : Dev nD) : S2x128x128x64.Slices ![0, 0, 8 * c.val, 0] S2x128x8x64 :=
  ⟨rfl, fun a => by have := dev_lt c; fin_cases a <;> simp <;> omega⟩

/-- A device's part of the keys or the values: its eight heads, the heads before the positions, batch by batch. -/
def ownHeads (c : Dev nD) (f : FVec F S2x128x128x64 .f32) : Kv F :=
  shapeCast S16x128x64 (transpose S2x8x128x64 [0, 2, 1, 3] (extractStridedSlice S2x128x8x64 ![0, 0, 8 * c.val, 0] f (own_heads c))
    transposes_S2x128x8x64_S2x8x128x64_0_2_1_3) shapeCasts_S2x8x128x64_S16x128x64

/-- Where a device's heads start, as the program's words. -/
def startWord (c : Dev nD) : IVec S_ 32 :=
  let n := muli (id (Host.remui (Host.divui (constantI S_ 32 c.word) (constantI S_ 32 1#32)) (constantI S_ 32 16#32))) (constantI S_ 32 8#32)
  select (cmpi .slt n (constantI S_ 32 0#32)) (addi n (constantI S_ 32 128#32)) n
/-- It is the device's place times eight. -/
theorem start_word (c : Dev nD) : BitVec.toInt (startWord c (Shape.Idx.first h_S_)) = (8 * c.val : ℕ) := by
  revert c; decide

/-- The keys handed over. -/
theorem kIn_eq (c : Dev nD) : kIn m c = ownHeads c (m ((c : Thread nD τ).loc main_arg3)) := by
  unfold kIn ownHeads
  after_reads_simp
  refine congrArg (fun z : FVec F S2x128x8x64 .f32 => shapeCast S16x128x64 (transpose S2x8x128x64 [0, 2, 1, 3] z
    transposes_S2x128x8x64_S2x8x128x64_0_2_1_3) shapeCasts_S2x8x128x64_S16x128x64) (Host.dynamicSlice_eq_extractStridedSlice _ _ _ _ _ _ ?_)
  intro k
  fin_cases k
  · show BitVec.toInt ((StableHlo.upto (hostOps0 c) (V0 m c) 16 (Proc.tc.devRef main_c_4) : IVec S_ 32) (Shape.Idx.first h_S_)) = 0
    after_reads_simp
    rfl
  · show BitVec.toInt ((StableHlo.upto (hostOps0 c) (V0 m c) 16 (Proc.tc.devRef main_c_5) : IVec S_ 32) (Shape.Idx.first h_S_)) = 0
    after_reads_simp
    rfl
  · show BitVec.toInt ((StableHlo.upto (hostOps0 c) (V0 m c) 16 (Proc.tc.devRef main_v8) : IVec S_ 32) (Shape.Idx.first h_S_)) = (8 * c.val : ℕ)
    after_reads_simp
    exact start_word c
  · show BitVec.toInt ((StableHlo.upto (hostOps0 c) (V0 m c) 16 (Proc.tc.devRef main_c_6) : IVec S_ 32) (Shape.Idx.first h_S_)) = 0
    after_reads_simp
    rfl

/-- The values handed over. -/
theorem vIn_eq (c : Dev nD) : vIn m c = ownHeads c (m ((c : Thread nD τ).loc main_arg4)) := by
  unfold vIn ownHeads
  after_reads_simp
  refine congrArg (fun z : FVec F S2x128x8x64 .f32 => shapeCast S16x128x64 (transpose S2x8x128x64 [0, 2, 1, 3] z
    transposes_S2x128x8x64_S2x8x128x64_0_2_1_3) shapeCasts_S2x8x128x64_S16x128x64) (Host.dynamicSlice_eq_extractStridedSlice _ _ _ _ _ _ ?_)
  intro k
  fin_cases k
  · show BitVec.toInt ((StableHlo.upto (hostOps0 c) (V0 m c) 27 (Proc.tc.devRef main_c_10) : IVec S_ 32) (Shape.Idx.first h_S_)) = 0
    after_reads_simp
    rfl
  · show BitVec.toInt ((StableHlo.upto (hostOps0 c) (V0 m c) 27 (Proc.tc.devRef main_c_11) : IVec S_ 32) (Shape.Idx.first h_S_)) = 0
    after_reads_simp
    rfl
  · show BitVec.toInt ((StableHlo.upto (hostOps0 c) (V0 m c) 27 (Proc.tc.devRef main_v13) : IVec S_ 32) (Shape.Idx.first h_S_)) = (8 * c.val : ℕ)
    after_reads_simp
    exact start_word c
  · show BitVec.toInt ((StableHlo.upto (hostOps0 c) (V0 m c) 27 (Proc.tc.devRef main_c_12) : IVec S_ 32) (Shape.Idx.first h_S_)) = 0
    after_reads_simp
    rfl

/-- The weights are handed over as they are. -/
theorem qIn_eq (c : Dev nD) : qIn m c = m ((c : Thread nD τ).loc main_arg1) := V1_of m c main_arg1 (by decide)
/-- The output weights reach the kernel as they were given. -/
theorem oIn_eq (c : Dev nD) : oIn m c = m ((c : Thread nD τ).loc main_arg2) := V1_of m c main_arg2 (by decide)

end Cert.KernelIdeal.Loops
-- ==== Proof.Attend.lean ====
/- Attention of one query row at the extended reals, as the kernel and the reference both come to it. -/
module

public import Idealize.ShloMosaic.Lib.Pointwise

@[expose] public section

noncomputable section

namespace Cert.Attend

open Idealize.ShloMosaic

/-- The scaled score of a query row against key `j`. -/
def score (q : Fin 64 → EReal) (k : Fin 128 → Fin 64 → EReal) (j : Fin 128) : EReal :=
  (∑ d : Fin 64, q d * k j d) * Ideal.ofBits .f32 0x3E000000#32
/-- The greatest of the scores. -/
def top (s : Fin 128 → EReal) : EReal := Finset.fold max (Ideal.ofBits .f32 0xFF800000#32) s Finset.univ
/-- The weights before they are normalised. -/
def weight (s : Fin 128 → EReal) (j : Fin 128) : EReal := Ideal.exp (s j - top s)
/-- The attended value at column `e`. -/
def att (q : Fin 64 → EReal) (k v : Fin 128 → Fin 64 → EReal) (e : Fin 64) : EReal :=
  Ideal.div (∑ j : Fin 128, weight (score q k) j * v j e) (∑ j : Fin 128, weight (score q k) j)

/-- A maximum already starts from the value that it is started from again. -/
theorem max_top (s : Fin 128 → EReal) : max (Ideal.ofBits .f32 0xFF800000#32) (top s) = top s :=
  max_eq_right ((Finset.le_fold_max (s := Finset.univ) (f := s) (b := Ideal.ofBits .f32 0xFF800000#32) _).mpr (Or.inl le_rfl))

/-- Starting from zero, however it is scaled. -/
theorem zero_mul_add (a b : EReal) : 0 * a + b = b := by rw [zero_mul, zero_add]

end Cert.Attend
-- ==== Proof.Value.lean ====
/- What the kernel computes at the extended reals, element by element. -/
module

public import proofs.«01_k».proof.Proof.Inputs
public import proofs.«01_k».proof.Proof.Attend

@[expose] public section

noncomputable section

namespace Cert.KernelIdeal.Loops

open Idealize.ShloMosaic Idealize.ShloMosaic.TcCoe
open Cert.KernelIdeal.Gen Cert.KernelIdeal.Talk Cert.Attend

set_option maxRecDepth 16384 in
/-- One head, at an element. -/
theorem core_at (q k v : FVec Ideal S128x64 .f32) (a : Fin 128) (b : Fin 64) :
    headCore q k v (ix2 a b) = att (fun d => q (ix2 a d)) (fun j d => k (ix2 j d)) (fun j d => v (ix2 j d)) b := by
  pointwise [headCore]
  rfl

set_option maxRecDepth 16384 in
/-- One head from all queries, at an element. -/
theorem head_at (q : FVec Ideal S256x512 .f32) (i : ℕ) (hi : i < 16) (k v : Vec Ideal S1x128x64 .f32) (a : Fin 128) (b : Fin 64) :
    head q i hi k v (ix2 a b) = att (fun d => q (ix2 ⟨128 * (i / 8) + a.val, by have := a.isLt; omega⟩ ⟨64 * (i % 8) + d.val, by have := d.isLt; omega⟩))
      (fun j d => k (ix3 0 j d)) (fun j d => v (ix3 0 j d)) b := by
  pointwise [head, hOff]
  rw [core_at]
  pointwise

set_option maxRecDepth 16384 in
/-- The queries of a device. -/
theorem queries_at (x : Big Ideal) (wq : Mat Ideal) (r : Fin 256) (n : Fin 512) :
    k0_pay1 (F := Ideal) x wq (ix2 r n) = ∑ k : Fin 512, x (ix2 r k) * wq (ix2 k n) := by
  pointwise [k0_pay1]

set_option maxRecDepth 16384 in
/-- The partial result of a device. -/
theorem project_at (x : Big Ideal) (wo : Mat Ideal) (r : Fin 256) (n : Fin 512) :
    k0_pay33 (F := Ideal) x wo (ix2 r n) = ∑ k : Fin 512, x (ix2 r k) * wo (ix2 k n) := by
  pointwise [k0_pay33]

/-! ## A device's partial result -/

set_option maxRecDepth 16384 in
/-- A device's part of the keys or the values, at an element. -/
theorem ownHeads_at (c : Dev nD) (f : FVec Ideal S2x128x128x64 .f32) (s : Fin 16) (j : Fin 128) (d : Fin 64) :
    ownHeads c f (ix3 s j d) = f (ix4 ⟨s.val / 8, by have := s.isLt; omega⟩ j ⟨8 * c.val + s.val % 8, by have := dev_lt c; omega⟩ d) := by
  pointwise [ownHeads]

/-- One head's keys or values, at an element. -/
theorem kvAt_at (f : Kv Ideal) (i : ℕ) (hi : i < 16) (j : Fin 128) (d : Fin 64) : kvAt f i hi (ix3 0 j d) = f (ix3 ⟨i, hi⟩ j d) :=
  congrArg f (ix3_eq_valueIdx ⟨i, hi⟩ j d).symm

set_option maxRecDepth 16384 in
/-- The batches one below the other, at an element. -/
theorem rows_at (X : FVec Ideal S2x128x512 .f32) (r : Fin 256) (t : Fin 512) :
    shapeCast S256x512 X shapeCasts_S2x128x512_S256x512 (ix2 r t) = X (ix3 ⟨r.val / 128, by have := r.isLt; omega⟩ ⟨r.val % 128, Nat.mod_lt _ (by decide)⟩ t) := by
  pointwise

variable (m : (ℓ : Loc nD τ sig) → Buf (Elt Ideal) ℓ)

/-- The rows of `x`, at an element. -/
theorem xIn_at (c : Dev nD) (X : FVec Ideal S2x128x512 .f32) (hX : m ((c : Thread nD τ).loc main_arg0) = X) (r : Fin 256) (t : Fin 512) :
    xIn m c (ix2 r t) = X (ix3 ⟨r.val / 128, by have := r.isLt; omega⟩ ⟨r.val % 128, Nat.mod_lt _ (by decide)⟩ t) := by
  rw [xIn_eq, hX]
  exact rows_at X r t

/-- A device's attention, at an element. -/
theorem attn_at (c : Dev nD) (q : FVec Ideal S256x512 .f32) (K V : FVec Ideal S2x128x128x64 .f32) (r : Fin 256) (k : Fin 512) :
    attnF q (ownHeads c K) (ownHeads c V) (ix2 r k)
      = att (fun d => q (ix2 r ⟨k.val / 64 * 64 + d.val, by have := d.isLt; have := k.isLt; omega⟩))
          (fun j d => K (ix4 ⟨r.val / 128, by have := r.isLt; omega⟩ j ⟨8 * c.val + k.val / 64, by have := dev_lt c; have := k.isLt; omega⟩ d))
          (fun j d => V (ix4 ⟨r.val / 128, by have := r.isLt; omega⟩ j ⟨8 * c.val + k.val / 64, by have := dev_lt c; have := k.isLt; omega⟩ d))
          ⟨k.val % 64, Nat.mod_lt _ (by decide)⟩ := by
  have hr := r.isLt
  have hk := k.isLt
  have hh : headOf (ix2 r k) = 8 * (r.val / 128) + k.val / 64 := rfl
  unfold attnF
  rw [← ix2_eq_valueIdx, head_at]
  congr 1
  · funext d
    refine congrArg q ?_
    congr 1 <;> apply Fin.ext
    · show 128 * (headOf (ix2 r k) / 8) + r.val % 128 = r.val; omega
    · show 64 * (headOf (ix2 r k) % 8) + d.val = k.val / 64 * 64 + d.val; omega
  all_goals
    funext j d
    refine (kvAt_at _ _ _ _ _).trans ((ownHeads_at c _ _ _ _).trans (congrArg _ ?_))
    congr 1 <;> apply Fin.ext
    · show headOf (ix2 r k) / 8 = r.val / 128; omega
    · show 8 * c.val + headOf (ix2 r k) % 8 = 8 * c.val + k.val / 64; omega

/-- A device's partial result, at an element. -/
theorem part_at (c : Dev nD) (X : FVec Ideal S2x128x512 .f32) (Q O : Mat Ideal) (K V : FVec Ideal S2x128x128x64 .f32)
    (hX : m ((c : Thread nD τ).loc main_arg0) = X) (hQ : m ((c : Thread nD τ).loc main_arg1) = Q) (hO : m ((c : Thread nD τ).loc main_arg2) = O)
    (hK : m ((c : Thread nD τ).loc main_arg3) = K) (hV : m ((c : Thread nD τ).loc main_arg4) = V) (r : Fin 256) (n : Fin 512) :
    PP m c (ix2 r n) = ∑ k : Fin 512,
      att (fun d => ∑ t : Fin 512, X (ix3 ⟨r.val / 128, by have := r.isLt; omega⟩ ⟨r.val % 128, Nat.mod_lt _ (by decide)⟩ t)
            * Q (ix2 t ⟨k.val / 64 * 64 + d.val, by have := d.isLt; have := k.isLt; omega⟩))
          (fun j d => K (ix4 ⟨r.val / 128, by have := r.isLt; omega⟩ j ⟨8 * c.val + k.val / 64, by have := dev_lt c; have := k.isLt; omega⟩ d))
          (fun j d => V (ix4 ⟨r.val / 128, by have := r.isLt; omega⟩ j ⟨8 * c.val + k.val / 64, by have := dev_lt c; have := k.isLt; omega⟩ d))
          ⟨k.val % 64, Nat.mod_lt _ (by decide)⟩ * O (ix2 k n) := by
  unfold PP partF
  rw [project_at, kIn_eq, vIn_eq, qIn_eq, oIn_eq, hQ, hO, hK, hV]
  refine Finset.sum_congr rfl fun k _ => ?_
  rw [attn_at]
  simp only [queries_at, xIn_at m c X hX]

/-! ## The sum over the devices -/

/-- What is gathered from the peers, at an element. -/
theorem acc_at (P : Dev nD → Big Ideal) (c : Dev nD) (a : Fin 16) (b : Fin 512) : ∀ (n d : ℕ) (h : d + n = 16) (acc : FVec Ideal S16x512 .f32),
    accAll P c n d h acc (ix2 a b) = acc (ix2 a b)
      + ∑ e ∈ Finset.range n, P (tgt c (16 - (d + e))) (ix2 ⟨16 * c.val + a.val, by have := dev_lt c; have := a.isLt; omega⟩ b)
  | 0, _, _, acc => by rw [Finset.sum_range_zero, add_zero]; rfl
  | n + 1, d, h, acc => by
    have e1 : accum acc (slotV P c d (by omega)) (ix2 a b)
        = acc (ix2 a b) + P (tgt c (16 - d)) (ix2 ⟨16 * c.val + a.val, by have := dev_lt c; have := a.isLt; omega⟩ b) := by
      pointwise [accum]
      rfl
    show accAll P c n (d + 1) _ (accum acc (slotV P c d _)) (ix2 a b) = _
    rw [acc_at P c a b n (d + 1), e1, Finset.sum_range_succ', add_assoc, add_comm (P _ _)]
    refine congrArg _ (congrArg₂ _ (Finset.sum_congr rfl fun e _ => ?_) rfl)
    rw [show d + 1 + e = d + (e + 1) by omega]

/-- Every device is some number of places after `c`. -/
theorem sum_tgt (c : Dev nD) (f : Dev nD → EReal) : ∑ k ∈ Finset.range 16, f (tgt c k) = ∑ c' : Dev nD, f c' := by
  have hi : Function.Injective fun k : Fin 16 => tgt c k.val := fun k l h => Fin.ext (tgt_inj c k.isLt l.isLt (congrArg Fin.val h))
  have hb : Function.Bijective fun k : Fin 16 => (tgt c k.val : Fin 16) := Finite.injective_iff_bijective.mp hi
  rw [← Fin.sum_univ_eq_sum_range (fun k => f (tgt c k)) 16]
  exact hb.sum_comp f

/-- A device's reduced rows are the sum of every device's. -/
theorem red_at (P : Dev nD → Big Ideal) (c : Dev nD) (a : Fin 16) (b : Fin 512) :
    redF P c (ix2 a b) = ∑ c' : Dev nD, P c' (ix2 ⟨16 * c.val + a.val, by have := dev_lt c; have := a.isLt; omega⟩ b) := by
  have e0 : redF P c (ix2 a b) = accAll P c 15 1 rfl (ownV P c) (ix2 a b) := by
    unfold redF
    generalize accAll P c 15 1 rfl (ownV P c) = y
    pointwise
  rw [e0, acc_at, ← sum_tgt c, Finset.sum_range_succ' _ 15, add_comm, tgt_zero]
  refine congrArg₂ _ ?_ rfl
  rw [← Finset.sum_range_reflect]
  refine Finset.sum_congr rfl fun e he => ?_
  have := Finset.mem_range.mp he
  rw [show 16 - (1 + (15 - 1 - e)) = e + 1 by omega]

/-- The gathered result, at an element. -/
theorem out_at (r : Fin 256) (n : Fin 512) : outF (RR m) (ix2 r n) = ∑ c : Dev nD, PP m c (ix2 r n) := by
  have hr := r.isLt
  unfold outF RR
  rw [← ix2_eq_valueIdx]
  refine (red_at _ _ _ _).trans (Finset.sum_congr rfl fun c _ => congrArg _ ?_)
  congr 1; apply Fin.ext
  show 16 * (r.val / 16) + r.val % 16 = r.val; omega

end Cert.KernelIdeal.Loops
-- ==== Proof.Composed.lean ====
/- The reference's composed result, cut into named steps. -/
module

public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem

variable {F : FTy → Type} [FloatOps F]

/-- The reference's scores. -/
def scores (q k : FVec F S2x128x128x64 .f32) : FVec F S2x128x128x128 .f32 :=
  mulf (Host.dotGeneral dot_S2x128x128x64_S2x128x128x64_S2x128x128x128_3_3_1_1_02_02 none q k) (broadcastInDim S2x128x128x128 ![] bcast_S_S2x128x128x128 (constant S_ .f32 0x3E000000#32))
/-- Its greatest scores, kept as a column. -/
def tops (s : FVec F S2x128x128x128 .f32) : FVec F S2x128x128x1 .f32 :=
  maximumf (broadcastInDim S2x128x128x1 ![] bcast_S_S2x128x128x1 (constant S_ .f32 0xFF800000#32))
    (broadcastInDim S2x128x128x1 ![0, 1, 2] bcast_S2x128x128_S2x128x128x1_0_1_2 (Host.reduce FloatOps.maximumf s (constant S_ .f32 0xFF800000#32) reducesTo_S2x128x128x128_S2x128x128_d3 h_S_))
/-- What the start is scaled by. -/
def fade (s : FVec F S2x128x128x128 .f32) : FVec F S2x128x128x1 .f32 :=
  Host.exp (subf (broadcastInDim S2x128x128x1 ![] bcast_S_S2x128x128x1 (constant S_ .f32 0xFF800000#32)) (tops s))
/-- Its weights. -/
def weights (s : FVec F S2x128x128x128 .f32) : FVec F S2x128x128x128 .f32 :=
  Host.exp (subf s (broadcastInDim S2x128x128x128 ![0, 1, 2, 3] bcast_S2x128x128x1_S2x128x128x128_0_1_2_3 (tops s)))
/-- Its normalisers. -/
def sums (s : FVec F S2x128x128x128 .f32) : FVec F S2x128x128x1 .f32 :=
  addf (mulf (broadcastInDim S2x128x128x1 ![] bcast_S_S2x128x128x1 (constant S_ .f32 0x00000000#32)) (fade s))
    (broadcastInDim S2x128x128x1 ![0, 1, 2] bcast_S2x128x128_S2x128x128x1_0_1_2 (Host.reduceAdd (weights s) (constant S_ .f32 0x00000000#32) reducesTo_S2x128x128x128_S2x128x128_d3 h_S_))
/-- Its weighted values. -/
def totals (s : FVec F S2x128x128x128 .f32) (v : FVec F S2x128x128x64 .f32) : FVec F S2x128x128x64 .f32 :=
  addf (mulf (broadcastInDim S2x128x128x64 ![] bcast_S_S2x128x128x64 (constant S_ .f32 0x00000000#32))
      (broadcastInDim S2x128x128x64 ![0, 1, 2, 3] bcast_S2x128x128x1_S2x128x128x64_0_1_2_3 (transpose S2x128x128x1 [0, 2, 1, 3] (fade s) transposes_S2x128x128x1_S2x128x128x1_0_2_1_3)))
    (transpose S2x128x128x64 [0, 3, 1, 2] (Host.dotGeneral dot_S2x128x128x64_S2x128x128x128_S2x128x64x128_1_3_3_2_02_01 none v (weights s)) transposes_S2x128x64x128_S2x128x128x64_0_3_1_2)
/-- Its attention. -/
def attended (q k v : FVec F S2x128x128x64 .f32) : FVec F S2x128x128x64 .f32 :=
  Host.divf (totals (scores q k) v)
    (broadcastInDim S2x128x128x64 ![0, 1, 2, 3] bcast_S2x128x128x1_S2x128x128x64_0_1_2_3 (transpose S2x128x128x1 [0, 2, 1, 3] (sums (scores q k)) transposes_S2x128x128x1_S2x128x128x1_0_2_1_3))
/-- The reference's result of its five arguments. -/
def result (x : FVec F S2x128x512 .f32) (wq : FVec F S512x8192 .f32) (wo : FVec F S8192x512 .f32) (k v : FVec F S2x128x128x64 .f32) : FVec F S2x128x512 .f32 :=
  Host.dotGeneral dot_S2x128x8192_S8192x512_S2x128x512_2_0_01_1_n_n none
    (shapeCast S2x128x8192 (attended (shapeCast S2x128x128x64 (Host.dotGeneral dot_S2x128x512_S512x8192_S2x128x8192_2_0_01_1_n_n none x wq) shapeCasts_S2x128x8192_S2x128x128x64) k v) shapeCasts_S2x128x128x64_S2x128x8192) wo

/-- The run's result is that. -/
theorem res_eq (m : (ℓ : Loc nD τ sig) → Buf (Elt F) ℓ) (c : Dev nD) :
    res_main_v30 m c = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Cert.ReferenceIdeal.Value
-- ==== Proof.Reference.lean ====
/- What the reference computes at the extended reals, element by element. -/
module

public import proofs.«01_k».proof.Proof.Composed
public import proofs.«01_k».proof.Proof.Attend

@[expose] public section

noncomputable section

namespace Cert.ReferenceIdeal.Value

open Cert.ReferenceIdeal Cert.ReferenceIdeal.Gen Idealize.ShloMosaic Idealize.ShloMosaic.TcCoe Idealize.SL.Sem Cert.Attend

set_option maxRecDepth 16384 in
/-- The scores at an element: the scaled products of a query row and the keys of its batch and head. -/
theorem scores_at (q k : FVec Ideal S2x128x128x64 .f32) (b : Fin 2) (h i j : Fin 128) :
    scores q k (ix4 b h i j) = score (fun d => q (ix4 b i h d)) (fun j d => k (ix4 b j h d)) j := by
  pointwise [scores]
  simp only [score]

/-- A maximum over the last of four axes, at any extents. -/
theorem reduce_max_at {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (a : Fin n0) (b : Fin n1) (c : Fin n2) :
    Host.reduce (FloatOps.maximumf : Ideal .f32 → Ideal .f32 → Ideal .f32) x init h hu (ix3 a b c) = Finset.fold max (init (Shape.Idx.first hu)) (fun k : Fin n3 => x (ix4 a b c k)) Finset.univ := by
  rw [Host.reduce_eq_fold, Shape.ReducesTo.fold_fiber_r4_a3]
  rfl

/-- The reference's row maxima, from any start. -/
theorem rowMax_at (s : FVec Ideal S2x128x128x128 .f32) (b : Fin 2) (h i : Fin 128) (init : FVec Ideal S_ .f32) :
   (Host.reduce FloatOps.maximumf s init reducesTo_S2x128x128x128_S2x128x128_d3 h_S_ : FVec Ideal S2x128x128 .f32) (ix3 b h i)
      = Finset.fold max (init (Shape.Idx.first h_S_)) (fun k => s (ix4 b h i k)) Finset.univ := reduce_max_at s init reducesTo_S2x128x128x128_S2x128x128_d3 h_S_ b h i

/-- The same from the start that it prints. -/
theorem rowTop_at (s : FVec Ideal S2x128x128x128 .f32) (b : Fin 2) (h i : Fin 128) :
   (Host.reduce FloatOps.maximumf s (constant S_ .f32 0xFF800000#32) reducesTo_S2x128x128x128_S2x128x128_d3 h_S_ : FVec Ideal S2x128x128 .f32) (ix3 b h i)
      = top fun j => s (ix4 b h i j) := (rowMax_at s b h i _).trans (by
   pointwise
   rw [top])

set_option maxRecDepth 16384 in
/-- Beginning again from the start changes nothing. -/
theorem again_at (s : FVec Ideal S2x128x128x128 .f32) (b : Fin 2) (h i : Fin 128) (y : FVec Ideal S2x128x128 .f32) (e : y (ix3 b h i) = top fun j => s (ix4 b h i j)) :
  maximumf (broadcastInDim S2x128x128x1 ![] bcast_S_S2x128x128x1 (constant (F := Ideal) S_ .f32 0xFF800000#32))
    (broadcastInDim S2x128x128x1 ![0, 1, 2] bcast_S2x128x128_S2x128x128x1_0_1_2 y) (ix4 b h i 0) = top fun j => s (ix4 b h i j) := by
  pointwise
  rw [e, max_top]

/-- The reference's greatest scores, at an element. -/
theorem tops_at (s : FVec Ideal S2x128x128x128 .f32) (b : Fin 2) (h i : Fin 128) :
    tops s (ix4 b h i 0) = top fun j => s (ix4 b h i j) := again_at s b h i _ (rowTop_at s b h i)

set_option maxRecDepth 16384 in
/-- The weights at an element, from the row's scores. -/
theorem weights_at (s : FVec Ideal S2x128x128x128 .f32) (b : Fin 2) (h i j : Fin 128) :
    weights s (ix4 b h i j) = weight (fun j => s (ix4 b h i j)) j := by
  pointwise [weights]
  rw [tops_at]
  rfl

set_option maxRecDepth 16384 in
/-- The sum of a row's weights. -/
theorem sums_at (s : FVec Ideal S2x128x128x128 .f32) (b : Fin 2) (h i : Fin 128) :
    sums s (ix4 b h i 0) = ∑ j, weight (fun j => s (ix4 b h i j)) j := by
  pointwise [sums]
  simp only [weights_at]
  exact zero_mul_add _ _

set_option maxRecDepth 16384 in
/-- The weighted values at an element, before they are divided. -/
theorem totals_at (s : FVec Ideal S2x128x128x128 .f32) (v : FVec Ideal S2x128x128x64 .f32) (b : Fin 2) (h i : Fin 128) (e : Fin 64) :
    totals s v (ix4 b i h e) = ∑ j, weight (fun j => s (ix4 b h i j)) j * v (ix4 b j h e) := by
  pointwise [totals]
  simp only [weights_at, mul_comm (v _)]
  exact zero_mul_add _ _

set_option maxRecDepth 16384 in
/-- The attended values at an element: those of one query row with the keys and values of its batch and head. -/
theorem attended_at (q k v : FVec Ideal S2x128x128x64 .f32) (b : Fin 2) (h i : Fin 128) (e : Fin 64) :
    attended q k v (ix4 b i h e) = att (fun d => q (ix4 b i h d)) (fun j d => k (ix4 b j h d)) (fun j d => v (ix4 b j h d)) e := by
  pointwise [attended]
  rw [totals_at, sums_at]
  simp only [scores_at]
  rfl

set_option maxRecDepth 16384 in
/-- The reference's result at an element. -/
theorem result_at (x : FVec Ideal S2x128x512 .f32) (wq : FVec Ideal S512x8192 .f32) (wo : FVec Ideal S8192x512 .f32) (k v : FVec Ideal S2x128x128x64 .f32)
    (b : Fin 2) (i : Fin 128) (n : Fin 512) :
    result x wq wo k v (ix3 b i n) = ∑ l : Fin 8192,
      att (fun d => ∑ t : Fin 512, x (ix3 b i t) * wq (ix2 t ⟨l.val / 64 * 64 + d.val, by have := d.isLt; have := l.isLt; omega⟩))
        (fun j d => k (ix4 b j ⟨l.val / 64, by have := l.isLt; omega⟩ d)) (fun j d => v (ix4 b j ⟨l.val / 64, by have := l.isLt; omega⟩ d)) ⟨l.val % 64, Nat.mod_lt _ (by decide)⟩
      * wo (ix2 l n) := by
  pointwise [result]
  refine Finset.sum_congr rfl fun l _ => ?_
  rw [attended_at]
  pointwise

end Cert.ReferenceIdeal.Value
-- ==== Proof.Equation.lean ====
/- The kernel's result and the reference's are one function over the extended reals. -/
module

public import proofs.«01_k».proof.Proof.Value
public import proofs.«01_k».proof.Proof.Reference
public import Idealize.ShloMosaic.Lib.LayoutAt

@[expose] public section

noncomputable section

namespace Cert.KernelIdeal.Loops

open Idealize.ShloMosaic Idealize.ShloMosaic.TcCoe
open Cert.KernelIdeal.Gen Cert.KernelIdeal.Talk Cert.Attend

/-- The result as the last host operation leaves it: the gathered rows cut into batches. -/
theorem result_eq {F : FTy → Type} [FloatOps F] (m : (ℓ : Loc nD τ sig) → Buf (Elt F) ℓ) (c : Dev nD) :
    V3 m (outs m) c main_v21 = (shapeCast S2x128x512 (outF (RR m) : FVec F S256x512 .f32) shapeCasts_S256x512_S2x128x512 : FVec F S2x128x512 .f32) := by
  have e : V2 m (outs m) c main_v20 = outF (RR m) := (Function.update_self ..).trans (outs_at m c)
  rw [← e]
  show StableHlo.after hostOps1 (V2 m (outs m) c) main_v21 = _
  generalize V2 m (outs m) c = W
  after_reads_simp
  rfl

set_option maxRecDepth 16384 in
/-- Rows cut into batches, at an element. -/
theorem batches_at (f : FVec Ideal S256x512 .f32) (b : Fin 2) (i : Fin 128) (n : Fin 512) :
    shapeCast S2x128x512 f shapeCasts_S256x512_S2x128x512 (ix3 b i n) = f (ix2 ⟨b.val * 128 + i.val, by have := b.isLt; have := i.isLt; omega⟩ n) := by
  pointwise

/-- A sum over all the columns of heads is a sum over the devices of sums over a device's columns. -/
theorem sum_devices (f : Fin 8192 → EReal) :
    ∑ l : Fin 8192, f l = ∑ c : Fin 16, ∑ k : Fin 512, f ⟨512 * c.val + k.val, by have := c.isLt; have := k.isLt; omega⟩ := by
  rw [← Fintype.sum_prod_type' (f := fun (c : Fin 16) (k : Fin 512) => f ⟨512 * c.val + k.val, by have := c.isLt; have := k.isLt; omega⟩)]
  refine ((finProdFinEquiv (m := 16) (n := 512)).sum_comp f).symm.trans (Finset.sum_congr rfl fun p _ => congrArg f (Fin.ext ?_))
  show p.2.val + 512 * p.1.val = 512 * p.1.val + p.2.val
  omega

/-- The kernel's result on every device is the reference's of the whole arrays. -/
theorem value_eq (m : (ℓ : Loc nD τ sig) → Buf (Elt Ideal) ℓ) (X : FVec Ideal S2x128x512 .f32) (Wq : FVec Ideal ⟨2, ![512, 8192]⟩ .f32)
    (Wo : FVec Ideal ⟨2, ![8192, 512]⟩ .f32) (K V : FVec Ideal S2x128x128x64 .f32)
    (hX : ∀ c : Dev nD, m ((c : Thread nD τ).loc main_arg0) = X)
    (hQ : ∀ c : Dev nD, m ((c : Thread nD τ).loc main_arg1) = Layout.block ⟨2, ![512, 512]⟩ ⟨2, ![512, 8192]⟩ 1 16 c Wq)
    (hO : ∀ c : Dev nD, m ((c : Thread nD τ).loc main_arg2) = Layout.block ⟨2, ![512, 512]⟩ ⟨2, ![8192, 512]⟩ 0 16 c Wo)
    (hK : ∀ c : Dev nD, m ((c : Thread nD τ).loc main_arg3) = K) (hV : ∀ c : Dev nD, m ((c : Thread nD τ).loc main_arg4) = V) (c : Dev nD) :
    V3 m (outs m) c main_v21 = Cert.ReferenceIdeal.Value.result (F := Ideal) X Wq Wo K V := by
  rw [result_eq]
  funext j
  obtain ⟨b, i, n, rfl⟩ : ∃ (b : Fin 2) (i : Fin 128) (n : Fin 512), j = ix3 b i n := ⟨j 0, j 1, j 2, eq_ix3 j⟩
  have hb := b.isLt
  have hi := i.isLt
  rw [batches_at, out_at, Cert.ReferenceIdeal.Value.result_at, sum_devices]
  refine Finset.sum_congr rfl fun d _ => ?_
  rw [part_at m d X _ _ K V (hX d) (hQ d) (hO d) (hK d) (hV d)]
  refine Finset.sum_congr rfl fun k _ => ?_
  have hk := k.isLt
  have hd := dev_lt d
  have eb : (⟨(b.val * 128 + i.val) / 128, by omega⟩ : Fin 2) = b := Fin.ext (by show (b.val * 128 + i.val) / 128 = b.val; omega)
  have ei : (⟨(b.val * 128 + i.val) % 128, Nat.mod_lt _ (by decide)⟩ : Fin 128) = i := Fin.ext (by show (b.val * 128 + i.val) % 128 = i.val; omega)
  have eh : (⟨8 * d.val + k.val / 64, by omega⟩ : Fin 128) = ⟨(512 * d.val + k.val) / 64, by omega⟩ := Fin.ext (by show 8 * d.val + k.val / 64 = (512 * d.val + k.val) / 64; omega)
  have ee : (⟨k.val % 64, Nat.mod_lt _ (by decide)⟩ : Fin 64) = ⟨(512 * d.val + k.val) % 64, Nat.mod_lt _ (by decide)⟩ := Fin.ext (by show k.val % 64 = (512 * d.val + k.val) % 64; omega)
  rw [eb, ei, eh, ee]
  have eO : Layout.block ⟨2, ![512, 512]⟩ ⟨2, ![8192, 512]⟩ 0 16 d Wo (by decide) (ix2 k n) = Wo (ix2 ⟨512 * d.val + k.val, by omega⟩ n) := by
    shard_norm
    shard_ext
  have eQ : ∀ (t : Fin 512) (e : Fin 64), Layout.block ⟨2, ![512, 512]⟩ ⟨2, ![512, 8192]⟩ 1 16 d Wq (by decide) (ix2 t ⟨k.val / 64 * 64 + e.val, by have := e.isLt; omega⟩)
      = Wq (ix2 t ⟨(512 * d.val + k.val) / 64 * 64 + e.val, by have := e.isLt; omega⟩) := by
    intro t e
    have he := e.isLt
    shard_norm
    shard_ext
  rw [eO]
  simp only [eQ]

end Cert.KernelIdeal.Loops
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- The frame of the kernel's program over any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).1, h.2⟩) (Cert.KernelIdeal.Loops.run_main m ρ)

/-- The frame of the kernel's ideal instance. -/
theorem frame_ideal : Cert.quiescent_KernelIdeal := fun m ρ _ => frame_any m ρ

/-- The two kernel programs are one text over any floats: the body table, -/
theorem defs_same0 {F : FTy → Type} [FloatOps F] : Cert.Kernel.defs₀ (F := F) = Cert.KernelIdeal.defs₀ := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))
/-- and the whole program's table. -/
theorem defs_same {F : FTy → Type} [FloatOps F] : Cert.Kernel.defs (F := F) = Cert.KernelIdeal.defs :=
  congrArg (Pipeline.defs Cert.KernelIdeal.pcfgs) defs_same0

/-- The kernel's frame at the bit patterns. -/
theorem frame_kernel : Cert.quiescent_Kernel := fun m ρ _ => by
  rw [defs_same]
  exact frame_any (F := Bits) m ρ

/-- The reference has no semaphore. -/
theorem frame_ref : Cert.quiescent_ReferenceIdeal := fun m ρ _ =>
  (θ_run Cert.ReferenceIdeal.defs _ _).mono (fun r h => ⟨fun c => (h c).2, funext fun g => by
    rcases g with ⟨t, ⟨s⟩ | ⟨s⟩⟩ <;> exact Fin.elim0 s⟩) (Cert.ReferenceIdeal.Value.run m ρ)

/-- Kernel and reference compute one function over the extended reals: every device's result is the reference's. -/
theorem algebraic : Cert.algebraic_KernelIdeal_ReferenceIdeal := fun m g m' g' _ h =>
  ⟨Cert.ReferenceIdeal.Value.res_main_v30 m' 0,
    (θ_run Cert.KernelIdeal.defs _ _).mono (fun r hr c => by
      obtain ⟨⟨h0, h1, h2, h3, h4⟩, hv⟩ := hr.1 c
      refine ⟨hv.trans ?_, h0, h1, h2, h3, h4⟩
      rw [Cert.ReferenceIdeal.Value.res_eq]
      exact Cert.KernelIdeal.Loops.value_eq m _ _ _ _ _ (fun c => (h c).1) (fun c => (h c).2.1) (fun c => (h c).2.2.1) (fun c => (h c).2.2.2.1)
        (fun c => (h c).2.2.2.2) c) (Cert.KernelIdeal.Loops.run_main m g),
    (θ_run Cert.ReferenceIdeal.defs _ _).mono (fun r hr => hr 0) (Cert.ReferenceIdeal.Value.run m' g')⟩

/-- Everything that is claimed. -/
theorem claim : Cert.Claim := ⟨Cert.Kernel.Gen.facts, Cert.KernelIdeal.Gen.facts, Cert.ReferenceIdeal.Gen.facts, frame_kernel, frame_ideal, frame_ref, trivial, algebraic⟩

end Cert.Proof

end
